-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S512x1024 : Shape := ⟨2, ![512, 1024]⟩
abbrev S2x1024x1024 : Shape := ⟨3, ![2, 1024, 1024]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 12
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1x4096, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1x4096, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1024x4096, .bf16⟩
  | .local _ .vmem, ⟨8, _⟩ => ⟨S4096x1024, .bf16⟩
  | .local _ .vmem, ⟨9, _⟩ => ⟨S2x1024x1024, .f32⟩
  | .local _ .vmem, ⟨10, _⟩ => ⟨S2x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2048x1024 : Shape := ⟨3, ![2, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S2x2048x4096 : Shape := ⟨3, ![2, 2048, 4096]⟩
abbrev S1x1x4096 : Shape := ⟨3, ![1, 1, 4096]⟩
abbrev S_ : Shape := ⟨0, ![]⟩
abbrev S1x1x1024 : Shape := ⟨3, ![1, 1, 1024]⟩
abbrev S2x2048 : Shape := ⟨2, ![2, 2048]⟩
abbrev S2x2048x1 : Shape := ⟨3, ![2, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S2x2048x4096, .f32⟩
  | .hbm, ⟨7, _⟩ => ⟨S1x1x4096, .f32⟩
  | .hbm, ⟨8, _⟩ => ⟨S2x2048x4096, .f32⟩
  | .hbm, ⟨9, _⟩ => ⟨S2x2048x4096, .f32⟩
  | .hbm, ⟨10, _⟩ => ⟨S_, .f32⟩
  | .hbm, ⟨11, _⟩ => ⟨S2x2048x4096, .f32⟩
  | .hbm, ⟨12, _⟩ => ⟨S2x2048x4096, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Kit.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

/-! The launch's set-up for a body with transfers of its own: its branch conditions, the buffers it is called
with, its semaphores, and the invariant it is run under, listed conjunct by conjunct. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- A load of the whole of a memref held at the contents that read `X` reads `X`. -/
theorem load_whole {sig : RefSig} {κ : Kind} {sp : Space} {s : Shape} {e : EltTy} {Val : EltTy → Type} {M : Memref sig κ sp s e} (h : M.IsWhole)
    (X : s.Idx → Val e) {off : Fin s.rank → ℕ} (inb : ∀ a, off a + s.size a ≤ s.size a) :
    View.readAt Val M.view (Rect.unit off s.size inb).toLoadRect (h.unread X) = X := by
  rw [View.readAt_full, h.read_unread]

variable (m : (ℓ : Loc nD τ sig) → Buf (Elt F) ℓ) (ρ : Dev nD → PrngReg)

set_option maxHeartbeats 800000 in
/-- The program around its one region: the host lines before it, the region, the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The body's branch conditions -/

/-- The condition of the body's first branch, from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's second branch, from the grid coordinates. -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The buffers the body is called with -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x4096 .bf16 := Memref.whole cc0_scratch0
abbrev scM0_1 : Memref sig .tc .vmem S4096x1024 .bf16 := Memref.whole cc0_scratch1
abbrev scM0_2 : Memref sig .tc .vmem S2x1024x1024 .f32 := Memref.whole cc0_scratch2
abbrev scM0_3 : Memref sig .tc .vmem S2x512x1024 .f32 := Memref.whole cc0_scratch3
/-- The operands left in HBM that the body copies into scratch itself, whole. -/
abbrev hbM0_0 : Memref sig .tc .hbm S1024x4096 .f32 := Memref.whole main_arg1
abbrev hbM0_1 : Memref sig .tc .hbm S4096x1024 .f32 := Memref.whole main_arg3
/-- Memref `M`'s buffer on core `c`: its contents type, and it held whole at `f` — behind this abbreviation, so that the
    run's rewriting of the goal leaves `Memref.view` intact. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 7, SemLoc.dma 8, SemLoc.dma 9, SemLoc.dma 10] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg1, main_arg3}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg3)) := by
  rw [BI.bigSep_eq_bigSepL_of_eq [main_arg1, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg1) ∗ hbPt0 c hbM0_1 (V m c main_arg3))) := by
  rw [Pipeline.ΦD_eq, scopedRest0_eq, ownSems00_eq, hbmPts0_eq]; simp only [scM0_0, scM0_1, scM0_2, scM0_3, owns_whole]; try rfl

/-- Input window 0's staging buffer holds its block at every point, for any proof data over the arrays as the
region finds them whose body leaves the block in place. -/
theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the arrays as the
region finds them whose body leaves the block in place. -/
theorem before0_1_ofD {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the arrays as the
region finds them whose body leaves the block in place. -/
theorem before0_2_ofD {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the arrays as the
region finds them whose body leaves the block in place. -/
theorem before0_3_ofD {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Mlp

end
-- ==== Proof.RunA.lean ====
module

public import proofs.«01_k».proof.Proof.Kit

/-! The body's first point, run symbolically: what it stores into the output block and into the two resident
weight buffers, as lists of pieces. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

-- the run's proof term is large
set_option maxHeartbeats 1020000 in set_option sl_exec.dmaWindow true in set_option sl_exec.dmaWindowSet true in
/-- The body at the first point: from the four input blocks, the two weights in HBM and anything in the buffers it
writes, it runs to the end, leaves the inputs and the weights as they were, and leaves in the output block and in the
two resident weight buffers the pieces listed (which the run finds). -/
def runA (c : Dev nD)
    (i : grid0.Coords)
    (arg1 : Memref sig .tc .vmem S512x1024 .f32)
    (harg1 : arg1.IsWhole)
    (arg3 : Memref sig .tc .vmem S1x4096 .f32)
    (harg3 : arg3.IsWhole)
    (arg5 : Memref sig .tc .vmem S1x1024 .f32)
    (harg5 : arg5.IsWhole)
    (arg6 : Memref sig .tc .vmem S1x1024 .f32)
    (harg6 : arg6.IsWhole)
    (arg7 : Memref sig .tc .vmem S512x1024 .f32)
    (harg7 : arg7.IsWhole)
    (arg8 : Memref sig .tc .vmem S1024x4096 .bf16)
    (harg8 : arg8.IsWhole)
    (arg9 : Memref sig .tc .vmem S4096x1024 .bf16)
    (harg9 : arg9.IsWhole)
    (arg10 : Memref sig .tc .vmem S2x1024x1024 .f32)
    (harg10 : arg10.IsWhole)
    (arg11 : Memref sig .tc .vmem S2x512x1024 .f32)
    (harg11 : arg11.IsWhole)
    (hc0 : cond0_0 i) (hc1 : ¬cond0_1 i)
    (x0 : Vec F S512x1024 .f32) (x1 : Vec F S1x4096 .f32) (x2 : Vec F S1x1024 .f32) (x3 : Vec F S1x1024 .f32)
    (fh0 : HbBuf0 (F := F) c hbM0_0) (fh1 : HbBuf0 (F := F) c hbM0_1)
    (f4 : BufTy.Contents (Elt F) arg7.view.ty) (fs0 : BufTy.Contents (Elt F) arg8.view.ty) (fs1 : BufTy.Contents (Elt F) arg9.view.ty)
    (fs2 : BufTy.Contents (Elt F) arg10.view.ty) (fs3 : BufTy.Contents (Elt F) arg11.view.ty) :
    { P : List (View.Piece (Elt F) S512x1024 .f32) × List (View.Piece (Elt F) S1024x4096 .bf16) × List (View.Piece (Elt F) S4096x1024 .bf16) //
      ∀ (W : Waits sig Unit) (K : PUnit → sProp 𝕄),
        iprop(owns (c : Thread nD τ) arg1 fullShare x0 ∗ owns (c : Thread nD τ) arg3 fullShare x1 ∗ owns (c : Thread nD τ) arg5 fullShare x2 ∗ owns (c : Thread nD τ) arg6 fullShare x3
            ∗ ((arg7.view.loc (c : Thread nD τ)) ↦[arg7.view.set]{fullShare} f4) ∗ ((arg8.view.loc (c : Thread nD τ)) ↦[arg8.view.set]{fullShare} fs0) ∗ ((arg9.view.loc (c : Thread nD τ)) ↦[arg9.view.set]{fullShare} fs1) ∗ ((arg10.view.loc (c : Thread nD τ)) ↦[arg10.view.set]{fullShare} fs2) ∗ ((arg11.view.loc (c : Thread nD τ)) ↦[arg11.view.set]{fullShare} fs3)
            ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
            ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3
                ∗ ((arg7.view.loc (c : Thread nD τ)) ↦[arg7.view.set]{fullShare} (arg7.view.writes (Elt F) f4 P.1)) ∗ ((arg8.view.loc (c : Thread nD τ)) ↦[arg8.view.set]{fullShare} (arg8.view.writes (Elt F) fs0 P.2.1)) ∗ ((arg9.view.loc (c : Thread nD τ)) ↦[arg9.view.set]{fullShare} (arg9.view.writes (Elt F) fs1 P.2.2))
                ∗ (∃ d, owns (c : Thread nD τ) arg10 fullShare d) ∗ (∃ d, owns (c : Thread nD τ) arg11 fullShare d)
                ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
                ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0__fused_mlp_kernel i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 cc0_scratch4 cc0_scratch5) K } := by
  refine ⟨(?_, ?_, ?_), ?_⟩
  rotate_left 3
  · intro W K
    simp only [cc0__fused_mlp_kernel_eq_skeleton]; unfold cc0__fused_mlp_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, H4, HS0, HS1, HS2, HS3, Hq0, Hq1, Hq2, Hq3, Hh0, Hh1, HW, Hk⟩
    obtain rfl := harg1.eq_unread hf0; obtain rfl := harg3.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [HS0]; · iexact HS0
    isplitl [HS1]; · iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.KernelIdeal.Mlp

end
-- ==== Proof.ValA.lean ====
module

public import proofs.«01_k».proof.Proof.RunA
public import Idealize.ShloMosaic.Lib.VecWindow
public import Idealize.ShloMosaic.Lib.ViewIndex
public import Idealize.ShloMosaic.Lib.WholeRead
public import Idealize.ShloMosaic.Lib.Pipeline.Value

/-! What the first point's run stores, read off its pieces: the two weights whole in the resident buffers, and in the
output block the rows computed chunk by chunk. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## The chunks -/

/-- The columns of the first weight that chunk `k` of four holds. -/
abbrev cols1 (k : Fin 4) : Rect S1024x4096 := Rect.unit ![0, 1024 * k.val] S1024x1024.size (by revert k; decide)
/-- The columns of the first bias that chunk `k` of four holds. -/
abbrev colsB (k : Fin 4) : Rect S1x4096 := Rect.unit ![0, 1024 * k.val] S1x1024.size (by revert k; decide)
/-- The rows of the second weight that chunk `k` of eight holds. -/
abbrev rows2 (k : Fin 8) : Rect S4096x1024 := Rect.unit ![512 * k.val, 0] S512x1024.size (by revert k; decide)

/-- The first weight, narrowed. -/
def w1b (W : Vec F S1024x4096 .f32) : Vec F S1024x4096 .bf16 := truncf .bf16 W bitsLt_bf16_f32
/-- The second weight, narrowed. -/
def w2b (W : Vec F S4096x1024 .f32) : Vec F S4096x1024 .bf16 := truncf .bf16 W bitsLt_bf16_f32

/-- The hidden activations of chunk `k`: 1024 of the 4096 columns. -/
def hidden (x : Vec F S512x1024 .f32) (w1 : Vec F S1024x4096 .bf16) (b1 : Vec F S1x4096 .f32) (k : Fin 4) : FVec F S512x1024 .bf16 :=
  k0_pay8 (k0_pay5 x) (View.ld w1 (cols1 k)) (View.ld b1 (colsB k))

/-- The running sum after the first half of a chunk of hidden columns. -/
def accFst (acc : FVec F S512x1024 .f32) (h : FVec F S512x1024 .bf16) (w : Vec F S512x1024 .bf16) : FVec F S512x1024 .f32 := k0_pay10 acc h w
/-- The running sum after the second half of a chunk of hidden columns. -/
def accSnd (acc : FVec F S512x1024 .f32) (h : FVec F S512x1024 .bf16) (w : Vec F S512x1024 .bf16) : FVec F S512x1024 .f32 := k0_pay12 h acc w

/-- The running sum after the first `2 * k` of the eight products, from the input block plus the second bias. -/
def accA (x : Vec F S512x1024 .f32) (w1 : Vec F S1024x4096 .bf16) (b1 : Vec F S1x4096 .f32) (w2 : Vec F S4096x1024 .bf16) (b2 : Vec F S1x1024 .f32) :
    ℕ → FVec F S512x1024 .f32
  | 0 => k0_pay6 x b2
  | k + 1 =>
    if h : k < 4 then
      accSnd (accFst (accA x w1 b1 w2 b2 k) (hidden x w1 b1 ⟨k, h⟩) (View.ld w2 (rows2 ⟨2 * k, by omega⟩)))
        (hidden x w1 b1 ⟨k, h⟩) (View.ld w2 (rows2 ⟨2 * k + 1, by omega⟩))
    else accA x w1 b1 w2 b2 k

/-- What the first point leaves in its output block, chunk by chunk. -/
def outA (x : Vec F S512x1024 .f32) (w1 : Vec F S1024x4096 .bf16) (b1 : Vec F S1x4096 .f32) (w2 : Vec F S4096x1024 .bf16) (b2 s : Vec F S1x1024 .f32) :
    FVec F S512x1024 .f32 :=
  k0_pay2 (hidden x w1 b1 3) (accFst (accA x w1 b1 w2 b2 3) (hidden x w1 b1 3) (View.ld w2 (rows2 6))) (View.ld w2 (rows2 7)) s

/-! ## A staging slot read back -/

section Slots

variable {sig : RefSig} {κ : Kind} {sp : Space} {s s' : Shape} {e : EltTy} {Val : EltTy → Type}

/-- A load of a slot just filled through its squeezed slice reads the payload. -/
theorem slot_hit (M : Memref sig κ sp s e) (r : Rect s) (hr : ∀ a, r.stride a = 1) (hq : r.shape.Squeezes s') (hc : r.shape.ShapeCasts s')
    (f : M.view.ty.Contents Val) (w : s'.Idx → Val e) :
    shapeCast s' (M.view.readAt Val r.toLoadRect (View.write Val ((M.slice r hr).squeeze s' hq).view f w Finset.univ)) hc = w := by
  rw [← Memref.read_squeeze_slice M r hr hq hc]
  exact View.read_write_univ _ _

/-- A load of a slot is not touched by filling another slot. -/
theorem slot_miss (M : Memref sig κ sp s e) (r r' : Rect s) (hr' : ∀ a, r'.stride a = 1) (hq : r'.shape.Squeezes s')
    (h : Disjoint r.set r'.set) (f : M.view.ty.Contents Val) (w : s'.Idx → Val e) :
    M.view.readAt Val r.toLoadRect (View.write Val ((M.slice r' hr').squeeze s' hq).view f w Finset.univ) = M.view.readAt Val r.toLoadRect f := by
  refine View.read_congr (v := M.view.slice r) fun i hi => View.write_of_not_mem _ _ _ ?_
  have hd := View.disjoint_slice (v := M.view) h
  have e : (((M.slice r' hr').squeeze s' hq).view.setOn Finset.univ : Finset M.view.ty.Idx) = (M.view.slice r').set :=
    Memref.set_view_squeeze _ hq
  rw [e]
  exact Finset.disjoint_left.mp hd hi

end Slots

/-- The two slots of the first weight's staging buffer share no element. -/
theorem slots1_disjoint {k k' : ℕ} (h : k ≠ k') (i : ∀ a, (![k, 0, 0] : Fin 3 → ℕ) a + S1x1024x1024.size a ≤ S2x1024x1024.size a)
    (i' : ∀ a, (![k', 0, 0] : Fin 3 → ℕ) a + S1x1024x1024.size a ≤ S2x1024x1024.size a) :
    Disjoint (Rect.unit (s := S2x1024x1024) ![k, 0, 0] S1x1024x1024.size i).set (Rect.unit (s := S2x1024x1024) ![k', 0, 0] S1x1024x1024.size i').set := by
  refine Rect.unit_disjoint 0 ?_
  show k + 1 ≤ k' ∨ k' + 1 ≤ k
  omega

/-- The two slots of the second weight's staging buffer share no element. -/
theorem slots2_disjoint {k k' : ℕ} (h : k ≠ k') (i : ∀ a, (![k, 0, 0] : Fin 3 → ℕ) a + S1x512x1024.size a ≤ S2x512x1024.size a)
    (i' : ∀ a, (![k', 0, 0] : Fin 3 → ℕ) a + S1x512x1024.size a ≤ S2x512x1024.size a) :
    Disjoint (Rect.unit (s := S2x512x1024) ![k, 0, 0] S1x512x1024.size i).set (Rect.unit (s := S2x512x1024) ![k', 0, 0] S1x512x1024.size i').set := by
  refine Rect.unit_disjoint 0 ?_
  show k + 1 ≤ k' ∨ k' + 1 ≤ k
  omega

/-- A staged chunk of the first weight, cast and stored, is that chunk of the narrowed weight. -/
theorem stored1 (v : Vec F S1x1024x1024 .f32) (W : Vec F S1024x4096 .f32) (k : Fin 4)
    (h : shapeCast S1024x1024 v shapeCasts_S1x1024x1024_S1024x1024 = View.ld W (cols1 k)) : k0_pay7 v = View.ld (w1b W) (cols1 k) := by
  unfold k0_pay7
  dsimp only
  rw [h, shapeCast_self]; rfl

/-- A staged chunk of the second weight, cast and stored, is that chunk of the narrowed weight. -/
theorem stored2 (v : Vec F S1x512x1024 .f32) (W : Vec F S4096x1024 .f32) (k : Fin 8)
    (h : shapeCast S512x1024 v shapeCasts_S1x512x1024_S512x1024 = View.ld W (rows2 k)) : k0_pay1 v = View.ld (w2b W) (rows2 k) := by
  unfold k0_pay1
  dsimp only
  rw [h, shapeCast_self]; rfl

/-! ## The first weight -/

section

variable (c : Dev nD) (arg8 : Memref sig .tc .vmem S1024x4096 .bf16) (arg10 : Memref sig .tc .vmem S2x1024x1024 .f32)
  (fh0 : HbBuf0 (F := F) c hbM0_0) (fs0 : BufTy.Contents (Elt F) arg8.view.ty) (fs2 : BufTy.Contents (Elt F) arg10.view.ty)

/-- What each of the four stores puts into the resident first weight: its chunk of the narrowed weight. -/
theorem pays1 :
    k0_pay7 (runA.sl.v38 c arg10 fh0 fs2) = View.ld (w1b (F := F) fh0) (cols1 0)
      ∧ k0_pay7 (runA.sl.v103 c arg10 fh0 fs2) = View.ld (w1b (F := F) fh0) (cols1 1)
      ∧ k0_pay7 (runA.sl.v168 c arg10 fh0 fs2) = View.ld (w1b (F := F) fh0) (cols1 2)
      ∧ k0_pay7 (runA.sl.v228 c arg10 fh0 fs2) = View.ld (w1b (F := F) fh0) (cols1 3) := by
  refine ⟨stored1 _ _ _ ?_, stored1 _ _ _ ?_, stored1 _ _ _ ?_, stored1 _ _ _ ?_⟩
  · unfold runA.sl.v38; rw [slot_miss _ _ _ _ _ (slots1_disjoint (by decide) _ _)]; exact slot_hit _ _ _ _ _ _ _
  · unfold runA.sl.v103; rw [slot_miss _ _ _ _ _ (slots1_disjoint (by decide) _ _)]; exact slot_hit _ _ _ _ _ _ _
  · unfold runA.sl.v168; rw [slot_miss _ _ _ _ _ (slots1_disjoint (by decide) _ _)]; exact slot_hit _ _ _ _ _ _ _
  · unfold runA.sl.v228; exact slot_hit _ _ _ _ _ _ _

/-- What each of the four loads of the resident first weight reads: its chunk of the narrowed weight. -/
theorem loads1 :
    runA.sl.v49 c arg8 arg10 fh0 fs2 = View.ld (w1b (F := F) fh0) (cols1 0)
      ∧ runA.sl.v114 c arg8 arg10 fh0 fs2 = View.ld (w1b (F := F) fh0) (cols1 1)
      ∧ runA.sl.v174 c arg8 arg10 fh0 fs2 = View.ld (w1b (F := F) fh0) (cols1 2)
      ∧ runA.sl.v234 c arg8 arg10 fh0 fs2 = View.ld (w1b (F := F) fh0) (cols1 3) := by
  obtain ⟨h0, h1, h2, h3⟩ := pays1 c arg10 fh0 fs2
  refine ⟨?_, ?_, ?_, ?_⟩
  · unfold runA.sl.v49 runA.sl.HS0_1; rw [View.readCov_cons_toLoadRect]; exact h0
  · unfold runA.sl.v114 runA.sl.HS0_2; rw [View.readCov_cons_toLoadRect]; exact h1
  · unfold runA.sl.v174 runA.sl.HS0_3; rw [View.readCov_cons_toLoadRect]; exact h2
  · unfold runA.sl.v234 runA.sl.HS0_4; rw [View.readCov_cons_toLoadRect]; exact h3

/-- The narrowed first weight's four chunks as stores, the last first. -/
def tiles1 (G : Vec F S1024x4096 .bf16) : List (View.Piece (Elt F) S1024x4096 .bf16) :=
  [3, 2, 1, 0].map fun k => ⟨cols1 k, View.ld G (cols1 k)⟩

/-- The run's stores into the resident first weight are those. -/
theorem pieces1 : runA.sl.HS0_4 c arg10 fh0 fs2 = tiles1 (w1b (F := F) fh0) := by
  obtain ⟨h0, h1, h2, h3⟩ := pays1 c arg10 fh0 fs2
  unfold tiles1
  simp only [List.map]
  rw [← h0, ← h1, ← h2, ← h3]
  rfl

/-- Together they cover the array, so that the buffer then reads the whole narrowed weight. -/
theorem read_tiles1 (G : Vec F S1024x4096 .bf16) : arg8.view.read (Elt F) (arg8.view.writes (Elt F) fs0 (tiles1 G)) = G := by
  funext y
  refine View.read_writes_apply_of_pieces (v := arg8.view) (f := fs0) G (tiles1 G) ?_ y ?_
  · intro p hp x
    obtain ⟨k, -, rfl⟩ := List.mem_map.mp hp
    rfl
  · have hy : (y 1).val < 4096 := (y 1).isLt
    refine ⟨_, List.mem_map.mpr ⟨⟨(y 1).val / 1024, by omega⟩, ?_, rfl⟩, ?_⟩
    · generalize (⟨(y 1).val / 1024, by omega⟩ : Fin 4) = k
      revert k; decide
    · rw [Rect.mem_set_unit]
      intro a
      match a with
      | ⟨0, _⟩ => exact ⟨Nat.zero_le _, lt_of_lt_of_eq (y 0).isLt rfl⟩
      | ⟨1, _⟩ => show 1024 * ((y 1).val / 1024) ≤ (y 1).val ∧ (y 1).val < 1024 * ((y 1).val / 1024) + 1024; omega

end

/-! ## The second weight -/

section

variable (c : Dev nD) (arg9 : Memref sig .tc .vmem S4096x1024 .bf16) (arg11 : Memref sig .tc .vmem S2x512x1024 .f32)
  (fh1 : HbBuf0 (F := F) c hbM0_1) (fs1 : BufTy.Contents (Elt F) arg9.view.ty) (fs3 : BufTy.Contents (Elt F) arg11.view.ty)

/-- What each of the eight stores puts into the resident second weight: its chunk of the narrowed weight. -/
theorem pays2 :
    k0_pay1 (runA.sl.v63 c arg11 fh1 fs3) = View.ld (w2b (F := F) fh1) (rows2 0)
      ∧ k0_pay1 (runA.sl.v83 c arg11 fh1 fs3) = View.ld (w2b (F := F) fh1) (rows2 1)
      ∧ k0_pay1 (runA.sl.v128 c arg11 fh1 fs3) = View.ld (w2b (F := F) fh1) (rows2 2)
      ∧ k0_pay1 (runA.sl.v148 c arg11 fh1 fs3) = View.ld (w2b (F := F) fh1) (rows2 3)
      ∧ k0_pay1 (runA.sl.v188 c arg11 fh1 fs3) = View.ld (w2b (F := F) fh1) (rows2 4)
      ∧ k0_pay1 (runA.sl.v208 c arg11 fh1 fs3) = View.ld (w2b (F := F) fh1) (rows2 5)
      ∧ k0_pay1 (runA.sl.v248 c arg11 fh1 fs3) = View.ld (w2b (F := F) fh1) (rows2 6)
      ∧ k0_pay1 (runA.sl.v263 c arg11 fh1 fs3) = View.ld (w2b (F := F) fh1) (rows2 7) := by
  refine ⟨stored2 _ _ _ ?_, stored2 _ _ _ ?_, stored2 _ _ _ ?_, stored2 _ _ _ ?_, stored2 _ _ _ ?_, stored2 _ _ _ ?_, stored2 _ _ _ ?_, stored2 _ _ _ ?_⟩
  · unfold runA.sl.v63; rw [slot_miss _ _ _ _ _ (slots2_disjoint (by decide) _ _)]; exact slot_hit _ _ _ _ _ _ _
  · unfold runA.sl.v83; rw [slot_miss _ _ _ _ _ (slots2_disjoint (by decide) _ _)]; exact slot_hit _ _ _ _ _ _ _
  · unfold runA.sl.v128; rw [slot_miss _ _ _ _ _ (slots2_disjoint (by decide) _ _)]; exact slot_hit _ _ _ _ _ _ _
  · unfold runA.sl.v148; rw [slot_miss _ _ _ _ _ (slots2_disjoint (by decide) _ _)]; exact slot_hit _ _ _ _ _ _ _
  · unfold runA.sl.v188; rw [slot_miss _ _ _ _ _ (slots2_disjoint (by decide) _ _)]; exact slot_hit _ _ _ _ _ _ _
  · unfold runA.sl.v208; rw [slot_miss _ _ _ _ _ (slots2_disjoint (by decide) _ _)]; exact slot_hit _ _ _ _ _ _ _
  · unfold runA.sl.v248; rw [slot_miss _ _ _ _ _ (slots2_disjoint (by decide) _ _)]; exact slot_hit _ _ _ _ _ _ _
  · unfold runA.sl.v263; exact slot_hit _ _ _ _ _ _ _

/-- What each of the eight loads of the resident second weight reads: its chunk of the narrowed weight. -/
theorem loads2 :
    runA.sl.v75 c arg9 arg11 fh1 fs3 = View.ld (w2b (F := F) fh1) (rows2 0)
      ∧ runA.sl.v95 c arg9 arg11 fh1 fs3 = View.ld (w2b (F := F) fh1) (rows2 1)
      ∧ runA.sl.v140 c arg9 arg11 fh1 fs3 = View.ld (w2b (F := F) fh1) (rows2 2)
      ∧ runA.sl.v160 c arg9 arg11 fh1 fs3 = View.ld (w2b (F := F) fh1) (rows2 3)
      ∧ runA.sl.v200 c arg9 arg11 fh1 fs3 = View.ld (w2b (F := F) fh1) (rows2 4)
      ∧ runA.sl.v220 c arg9 arg11 fh1 fs3 = View.ld (w2b (F := F) fh1) (rows2 5)
      ∧ runA.sl.v255 c arg9 arg11 fh1 fs3 = View.ld (w2b (F := F) fh1) (rows2 6)
      ∧ runA.sl.v270 c arg9 arg11 fh1 fs3 = View.ld (w2b (F := F) fh1) (rows2 7) := by
  obtain ⟨h0, h1, h2, h3, h4, h5, h6, h7⟩ := pays2 c arg11 fh1 fs3
  refine ⟨?_, ?_, ?_, ?_, ?_, ?_, ?_, ?_⟩
  · unfold runA.sl.v75 runA.sl.HS1_1; rw [View.readCov_cons_toLoadRect]; exact h0
  · unfold runA.sl.v95 runA.sl.HS1_2; rw [View.readCov_cons_toLoadRect]; exact h1
  · unfold runA.sl.v140 runA.sl.HS1_3; rw [View.readCov_cons_toLoadRect]; exact h2
  · unfold runA.sl.v160 runA.sl.HS1_4; rw [View.readCov_cons_toLoadRect]; exact h3
  · unfold runA.sl.v200 runA.sl.HS1_5; rw [View.readCov_cons_toLoadRect]; exact h4
  · unfold runA.sl.v220 runA.sl.HS1_6; rw [View.readCov_cons_toLoadRect]; exact h5
  · unfold runA.sl.v255 runA.sl.HS1_7; rw [View.readCov_cons_toLoadRect]; exact h6
  · unfold runA.sl.v270 runA.sl.HS1_8; rw [View.readCov_cons_toLoadRect]; exact h7

/-- The narrowed second weight's eight chunks as stores, the last first. -/
def tiles2 (G : Vec F S4096x1024 .bf16) : List (View.Piece (Elt F) S4096x1024 .bf16) :=
  [7, 6, 5, 4, 3, 2, 1, 0].map fun k => ⟨rows2 k, View.ld G (rows2 k)⟩

/-- The run's stores into the resident second weight are those. -/
theorem pieces2 : runA.sl.HS1_8 c arg11 fh1 fs3 = tiles2 (w2b (F := F) fh1) := by
  obtain ⟨h0, h1, h2, h3, h4, h5, h6, h7⟩ := pays2 c arg11 fh1 fs3
  unfold tiles2
  simp only [List.map]
  rw [← h0, ← h1, ← h2, ← h3, ← h4, ← h5, ← h6, ← h7]
  rfl

/-- Together they cover the array, so that the buffer then reads the whole narrowed weight. -/
theorem read_tiles2 (G : Vec F S4096x1024 .bf16) : arg9.view.read (Elt F) (arg9.view.writes (Elt F) fs1 (tiles2 G)) = G := by
  funext y
  refine View.read_writes_apply_of_pieces (v := arg9.view) (f := fs1) G (tiles2 G) ?_ y ?_
  · intro p hp x
    obtain ⟨k, -, rfl⟩ := List.mem_map.mp hp
    rfl
  · have hy : (y 0).val < 4096 := (y 0).isLt
    refine ⟨_, List.mem_map.mpr ⟨⟨(y 0).val / 512, by omega⟩, ?_, rfl⟩, ?_⟩
    · generalize (⟨(y 0).val / 512, by omega⟩ : Fin 8) = k
      revert k; decide
    · rw [Rect.mem_set_unit]
      intro a
      match a with
      | ⟨0, _⟩ => show 512 * ((y 0).val / 512) ≤ (y 0).val ∧ (y 0).val < 512 * ((y 0).val / 512) + 512; omega
      | ⟨1, _⟩ => exact ⟨Nat.zero_le _, lt_of_lt_of_eq (y 1).isLt rfl⟩

end

/-! ## The output block -/

section

variable (c : Dev nD) (i : grid0.Coords) (arg1 : Memref sig .tc .vmem S512x1024 .f32) (harg1 : arg1.IsWhole)
  (arg3 : Memref sig .tc .vmem S1x4096 .f32) (harg3 : arg3.IsWhole) (arg5 : Memref sig .tc .vmem S1x1024 .f32) (harg5 : arg5.IsWhole)
  (arg6 : Memref sig .tc .vmem S1x1024 .f32) (harg6 : arg6.IsWhole) (arg7 : Memref sig .tc .vmem S512x1024 .f32) (harg7 : arg7.IsWhole)
  (arg8 : Memref sig .tc .vmem S1024x4096 .bf16) (harg8 : arg8.IsWhole) (arg9 : Memref sig .tc .vmem S4096x1024 .bf16) (harg9 : arg9.IsWhole)
  (arg10 : Memref sig .tc .vmem S2x1024x1024 .f32) (harg10 : arg10.IsWhole) (arg11 : Memref sig .tc .vmem S2x512x1024 .f32) (harg11 : arg11.IsWhole)
  (hc0 : cond0_0 i) (hc1 : ¬cond0_1 i)
  (x0 : Vec F S512x1024 .f32) (x1 : Vec F S1x4096 .f32) (x2 : Vec F S1x1024 .f32) (x3 : Vec F S1x1024 .f32)
  (fh0 : HbBuf0 (F := F) c hbM0_0) (fh1 : HbBuf0 (F := F) c hbM0_1)
  (f4 : BufTy.Contents (Elt F) arg7.view.ty) (fs0 : BufTy.Contents (Elt F) arg8.view.ty) (fs1 : BufTy.Contents (Elt F) arg9.view.ty)
  (fs2 : BufTy.Contents (Elt F) arg10.view.ty) (fs3 : BufTy.Contents (Elt F) arg11.view.ty)

/-- A load of one chunk of the bias block reads that chunk. -/
theorem load_bias (k : Fin 4) : View.readAt (Elt F) arg3.view (colsB k).toLoadRect (harg3.unread x1) = View.ld x1 (colsB k) :=
  funext fun x => harg3.readAt_unread x1 _ x

/-- The narrowed input block. -/
theorem load_x : runA.sl.r c arg1 harg1 x0 = k0_pay5 x0 := by
  unfold runA.sl.r; rw [load_whole harg1]

/-- The hidden activations of the four chunks, as the run computes them. -/
theorem hidden_run :
    k0_pay8 (runA.sl.r c arg1 harg1 x0) (runA.sl.v49 c arg8 arg10 fh0 fs2) (View.readAt (Elt F) arg3.view (colsB 0).toLoadRect (harg3.unread x1)) = hidden x0 (w1b fh0) x1 0
      ∧ k0_pay8 (runA.sl.r c arg1 harg1 x0) (runA.sl.v114 c arg8 arg10 fh0 fs2) (View.readAt (Elt F) arg3.view (colsB 1).toLoadRect (harg3.unread x1)) = hidden x0 (w1b fh0) x1 1
      ∧ k0_pay8 (runA.sl.r c arg1 harg1 x0) (runA.sl.v174 c arg8 arg10 fh0 fs2) (View.readAt (Elt F) arg3.view (colsB 2).toLoadRect (harg3.unread x1)) = hidden x0 (w1b fh0) x1 2
      ∧ k0_pay8 (runA.sl.r c arg1 harg1 x0) (runA.sl.v234 c arg8 arg10 fh0 fs2) (View.readAt (Elt F) arg3.view (colsB 3).toLoadRect (harg3.unread x1)) = hidden x0 (w1b fh0) x1 3 := by
  obtain ⟨h0, h1, h2, h3⟩ := loads1 c arg8 arg10 fh0 fs2
  rw [load_x, load_bias, load_bias, load_bias, load_bias, h0, h1, h2, h3]
  exact ⟨rfl, rfl, rfl, rfl⟩

/-- The stored block, as the run computes it, is the chunked computation on the narrowed weights. -/
theorem out_run :
    k0_pay2 (runA.sl.r_14 c arg1 harg1 arg3 harg3 arg8 arg10 x0 x1 fh0 fs2)
        (runA.sl.r_15 c arg1 harg1 arg3 harg3 arg5 harg5 arg8 arg9 arg10 arg11 x0 x1 x2 fh0 fh1 fs2 fs3)
        (runA.sl.v270 c arg9 arg11 fh1 fs3) x3
      = outA x0 (w1b fh0) x1 (w2b fh1) x2 x3 := by
  obtain ⟨g0, g1, g2, g3⟩ := hidden_run c arg1 harg1 arg3 harg3 arg8 arg10 x0 x1 fh0 fs2
  obtain ⟨k0, k1, k2, k3, k4, k5, k6, k7⟩ := loads2 c arg9 arg11 fh1 fs3
  have e1 : runA.sl.r_1 c arg1 harg1 arg5 harg5 x0 x2 = k0_pay6 x0 x2 := by
    unfold runA.sl.r_1; rw [load_whole harg1, load_whole harg5]
  refine (show _ = k0_pay2 (k0_pay8 (runA.sl.r c arg1 harg1 x0) (runA.sl.v234 c arg8 arg10 fh0 fs2) (View.readAt (Elt F) arg3.view (colsB 3).toLoadRect (harg3.unread x1)))
      (accFst (accSnd (accFst (accSnd (accFst (accSnd (accFst (runA.sl.r_1 c arg1 harg1 arg5 harg5 x0 x2)
        (k0_pay8 (runA.sl.r c arg1 harg1 x0) (runA.sl.v49 c arg8 arg10 fh0 fs2) (View.readAt (Elt F) arg3.view (colsB 0).toLoadRect (harg3.unread x1))) (runA.sl.v75 c arg9 arg11 fh1 fs3))
        (k0_pay8 (runA.sl.r c arg1 harg1 x0) (runA.sl.v49 c arg8 arg10 fh0 fs2) (View.readAt (Elt F) arg3.view (colsB 0).toLoadRect (harg3.unread x1))) (runA.sl.v95 c arg9 arg11 fh1 fs3))
        (k0_pay8 (runA.sl.r c arg1 harg1 x0) (runA.sl.v114 c arg8 arg10 fh0 fs2) (View.readAt (Elt F) arg3.view (colsB 1).toLoadRect (harg3.unread x1))) (runA.sl.v140 c arg9 arg11 fh1 fs3))
        (k0_pay8 (runA.sl.r c arg1 harg1 x0) (runA.sl.v114 c arg8 arg10 fh0 fs2) (View.readAt (Elt F) arg3.view (colsB 1).toLoadRect (harg3.unread x1))) (runA.sl.v160 c arg9 arg11 fh1 fs3))
        (k0_pay8 (runA.sl.r c arg1 harg1 x0) (runA.sl.v174 c arg8 arg10 fh0 fs2) (View.readAt (Elt F) arg3.view (colsB 2).toLoadRect (harg3.unread x1))) (runA.sl.v200 c arg9 arg11 fh1 fs3))
        (k0_pay8 (runA.sl.r c arg1 harg1 x0) (runA.sl.v174 c arg8 arg10 fh0 fs2) (View.readAt (Elt F) arg3.view (colsB 2).toLoadRect (harg3.unread x1))) (runA.sl.v220 c arg9 arg11 fh1 fs3))
        (k0_pay8 (runA.sl.r c arg1 harg1 x0) (runA.sl.v234 c arg8 arg10 fh0 fs2) (View.readAt (Elt F) arg3.view (colsB 3).toLoadRect (harg3.unread x1))) (runA.sl.v255 c arg9 arg11 fh1 fs3))
      (runA.sl.v270 c arg9 arg11 fh1 fs3) x3 from rfl).trans ?_
  rw [e1, g0, g1, g2, g3, k0, k1, k2, k3, k4, k5, k6, k7]
  rfl

/-- The output block after the first point. -/
theorem read_out : arg7.view.read (Elt F) (arg7.view.writes (Elt F) f4 (runA c i arg1 harg1 arg3 harg3 arg5 harg5 arg6 harg6 arg7 harg7 arg8 harg8 arg9 harg9 arg10 harg10 arg11 harg11 hc0 hc1 x0 x1 x2 x3 fh0 fh1 f4 fs0 fs1 fs2 fs3).1.1)
      = outA x0 (w1b fh0) x1 (w2b fh1) x2 x3 := by
  unfold runA
  dsimp only
  rw [View.read_writes_full, load_whole harg6]
  exact out_run c arg1 harg1 arg3 harg3 arg5 harg5 arg8 arg9 arg10 arg11 x0 x1 x2 x3 fh0 fh1 fs2 fs3

/-- The resident first weight after the first point. -/
theorem read_w1 : arg8.view.read (Elt F) (arg8.view.writes (Elt F) fs0 (runA c i arg1 harg1 arg3 harg3 arg5 harg5 arg6 harg6 arg7 harg7 arg8 harg8 arg9 harg9 arg10 harg10 arg11 harg11 hc0 hc1 x0 x1 x2 x3 fh0 fh1 f4 fs0 fs1 fs2 fs3).1.2.1) = w1b (F := F) fh0 := by
  refine (congrArg (fun L => arg8.view.read (Elt F) (arg8.view.writes (Elt F) fs0 L)) (pieces1 c arg10 fh0 fs2)).trans ?_
  exact read_tiles1 arg8 fs0 _

/-- The resident second weight after the first point. -/
theorem read_w2 : arg9.view.read (Elt F) (arg9.view.writes (Elt F) fs1 (runA c i arg1 harg1 arg3 harg3 arg5 harg5 arg6 harg6 arg7 harg7 arg8 harg8 arg9 harg9 arg10 harg10 arg11 harg11 hc0 hc1 x0 x1 x2 x3 fh0 fh1 f4 fs0 fs1 fs2 fs3).1.2.2) = w2b (F := F) fh1 := by
  refine (congrArg (fun L => arg9.view.read (Elt F) (arg9.view.writes (Elt F) fs1 L)) (pieces2 c arg11 fh1 fs3)).trans ?_
  exact read_tiles2 arg9 fs1 _

end

end Cert.KernelIdeal.Mlp

end
-- ==== Proof.BodyA.lean ====
module

public import proofs.«01_k».proof.Proof.ValA

/-! The body at the first point, its buffers named by what they read. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The body at the first point leaves in the output block what the chunked computation gives on the narrowed weights, and in
the two resident weight buffers the two weights in HBM, narrowed. -/
theorem bodyA (c : Dev nD)
    (i : grid0.Coords)
    (arg1 : Memref sig .tc .vmem S512x1024 .f32)
    (harg1 : arg1.IsWhole)
    (arg3 : Memref sig .tc .vmem S1x4096 .f32)
    (harg3 : arg3.IsWhole)
    (arg5 : Memref sig .tc .vmem S1x1024 .f32)
    (harg5 : arg5.IsWhole)
    (arg6 : Memref sig .tc .vmem S1x1024 .f32)
    (harg6 : arg6.IsWhole)
    (arg7 : Memref sig .tc .vmem S512x1024 .f32)
    (harg7 : arg7.IsWhole)
    (arg8 : Memref sig .tc .vmem S1024x4096 .bf16)
    (harg8 : arg8.IsWhole)
    (arg9 : Memref sig .tc .vmem S4096x1024 .bf16)
    (harg9 : arg9.IsWhole)
    (arg10 : Memref sig .tc .vmem S2x1024x1024 .f32)
    (harg10 : arg10.IsWhole)
    (arg11 : Memref sig .tc .vmem S2x512x1024 .f32)
    (harg11 : arg11.IsWhole)
    (hc0 : cond0_0 i) (hc1 : ¬cond0_1 i)
    (x0 : Vec F S512x1024 .f32) (x1 : Vec F S1x4096 .f32) (x2 : Vec F S1x1024 .f32) (x3 : Vec F S1x1024 .f32)
    (fh0 : HbBuf0 (F := F) c hbM0_0) (fh1 : HbBuf0 (F := F) c hbM0_1)
    (W : Waits sig Unit) (K : PUnit → sProp 𝕄) :
        iprop(owns (c : Thread nD τ) arg1 fullShare x0 ∗ owns (c : Thread nD τ) arg3 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
            ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3
                ∗ owns (c : Thread nD τ) arg7 fullShare (outA x0 (w1b fh0) x1 (w2b fh1) x2 x3)
                ∗ owns (c : Thread nD τ) arg8 fullShare (w1b (F := F) fh0) ∗ owns (c : Thread nD τ) arg9 fullShare (w2b (F := F) fh1)
                ∗ (∃ d, owns (c : Thread nD τ) arg10 fullShare d) ∗ (∃ d, owns (c : Thread nD τ) arg11 fullShare d)
                ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
                ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0__fused_mlp_kernel i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 cc0_scratch4 cc0_scratch5) K := by
  iintro ⟨H0, H1, H2, H3, ⟨%d4, H4⟩, ⟨%ds0, HS0⟩, ⟨%ds1, HS1⟩, ⟨%ds2, HS2⟩, ⟨%ds3, HS3⟩, Hq0, Hq1, Hq2, Hq3, Hh0, Hh1, HW, Hk⟩
  unfold owns
  icases H4 with ⟨%f4, -, H4⟩; icases HS0 with ⟨%fs0, -, HS0⟩; icases HS1 with ⟨%fs1, -, HS1⟩
  icases HS2 with ⟨%fs2, -, HS2⟩; icases HS3 with ⟨%fs3, -, HS3⟩
  iapply ((runA c i arg1 harg1 arg3 harg3 arg5 harg5 arg6 harg6 arg7 harg7 arg8 harg8 arg9 harg9 arg10 harg10 arg11 harg11 hc0 hc1 x0 x1 x2 x3 fh0 fh1 f4 fs0 fs1 fs2 fs3).2 W K)
  unfold owns
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [HW]; · iexact HW
  iintro ⟨H0, H1, H2, H3, H4, HS0, HS1, HS2, HS3, Hq0, Hq1, Hq2, Hq3, Hh0, Hh1, HW⟩
  iapply Hk
  isplitl [H0]; · iexact H0
  isplitl [H1]; · iexact H1
  isplitl [H2]; · iexact H2
  isplitl [H3]; · iexact H3
  isplitl [H4]
  · iexists _; isplitr; swap; · iexact H4
    ipureintro; exact read_out c i arg1 harg1 arg3 harg3 arg5 harg5 arg6 harg6 arg7 harg7 arg8 harg8 arg9 harg9 arg10 harg10 arg11 harg11 hc0 hc1 x0 x1 x2 x3 fh0 fh1 f4 fs0 fs1 fs2 fs3
  isplitl [HS0]
  · iexists _; isplitr; swap; · iexact HS0
    ipureintro; exact read_w1 c i arg1 harg1 arg3 harg3 arg5 harg5 arg6 harg6 arg7 harg7 arg8 harg8 arg9 harg9 arg10 harg10 arg11 harg11 hc0 hc1 x0 x1 x2 x3 fh0 fh1 f4 fs0 fs1 fs2 fs3
  isplitl [HS1]
  · iexists _; isplitr; swap; · iexact HS1
    ipureintro; exact read_w2 c i arg1 harg1 arg3 harg3 arg5 harg5 arg6 harg6 arg7 harg7 arg8 harg8 arg9 harg9 arg10 harg10 arg11 harg11 hc0 hc1 x0 x1 x2 x3 fh0 fh1 f4 fs0 fs1 fs2 fs3
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexact HW

end Cert.KernelIdeal.Mlp

end
-- ==== Proof.RunB.lean ====
module

public import proofs.«01_k».proof.Proof.Kit
public import Idealize.ShloMosaic.Lib.VecWindow

/-! The body's later points, run symbolically: one block against the resident weights. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

set_option maxHeartbeats 1000000 in
/-- The body at a later point: with `w1` and `w2` in the two resident weight buffers it leaves in the output block the
rows `k0_pay3` computes from the input block, the biases, the scale and those weights, and everything else as it was. -/
theorem runB (c : Dev nD)
    (i : grid0.Coords)
    (arg1 : Memref sig .tc .vmem S512x1024 .f32)
    (harg1 : arg1.IsWhole)
    (arg3 : Memref sig .tc .vmem S1x4096 .f32)
    (harg3 : arg3.IsWhole)
    (arg5 : Memref sig .tc .vmem S1x1024 .f32)
    (harg5 : arg5.IsWhole)
    (arg6 : Memref sig .tc .vmem S1x1024 .f32)
    (harg6 : arg6.IsWhole)
    (arg7 : Memref sig .tc .vmem S512x1024 .f32)
    (harg7 : arg7.IsWhole)
    (arg8 : Memref sig .tc .vmem S1024x4096 .bf16)
    (harg8 : arg8.IsWhole)
    (arg9 : Memref sig .tc .vmem S4096x1024 .bf16)
    (harg9 : arg9.IsWhole)
    (arg10 : Memref sig .tc .vmem S2x1024x1024 .f32)
    (harg10 : arg10.IsWhole)
    (arg11 : Memref sig .tc .vmem S2x512x1024 .f32)
    (harg11 : arg11.IsWhole)
    (hc0 : ¬cond0_0 i) (hc1 : cond0_1 i)
    (x0 : Vec F S512x1024 .f32) (x1 : Vec F S1x4096 .f32) (x2 : Vec F S1x1024 .f32) (x3 : Vec F S1x1024 .f32)
    (w1 : Vec F S1024x4096 .bf16) (w2 : Vec F S4096x1024 .bf16)
    (W : Waits sig Unit) (K : PUnit → sProp 𝕄) :
        iprop(owns (c : Thread nD τ) arg1 fullShare x0 ∗ owns (c : Thread nD τ) arg3 fullShare x1 ∗ owns (c : Thread nD τ) arg5 fullShare x2 ∗ owns (c : Thread nD τ) arg6 fullShare x3
            ∗ (∃ d, owns (c : Thread nD τ) arg7 fullShare d) ∗ owns (c : Thread nD τ) arg8 fullShare w1 ∗ owns (c : Thread nD τ) arg9 fullShare w2
            ∗ owes (c : Thread nD τ) 0 W
            ∗ (iprop(owns (c : Thread nD τ) arg1 fullShare x0 ∗ owns (c : Thread nD τ) arg3 fullShare x1 ∗ owns (c : Thread nD τ) arg5 fullShare x2 ∗ owns (c : Thread nD τ) arg6 fullShare x3
                ∗ owns (c : Thread nD τ) arg7 fullShare (k0_pay3 x0 w1 x1 w2 x2 x3) ∗ owns (c : Thread nD τ) arg8 fullShare w1 ∗ owns (c : Thread nD τ) arg9 fullShare w2
                ∗ (∃ W', owes (c : Thread nD τ) 0 W')) -∗ K ⟨⟩))
          ⊢ wp frame (wpE (defs₀ (F := F)) Variants.none c none) Set.univ (cc0__fused_mlp_kernel i arg1 harg1 (Memref.whole main_arg1) (Memref.isWhole_whole _) arg3 harg3 (Memref.whole main_arg3) (Memref.isWhole_whole _) arg5 harg5 arg6 harg6 arg7 harg7 arg8 harg8 arg9 harg9 arg10 harg10 arg11 harg11 cc0_scratch4 cc0_scratch5) K := by
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, HW, Hk⟩
    obtain rfl := harg1.eq_unread hf0; obtain rfl := harg3.eq_unread hf1; obtain rfl := harg5.eq_unread hf2; obtain rfl := harg6.eq_unread hf3
    obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [View.read_writes_full, load_whole harg1, load_whole harg8, load_whole harg3, load_whole harg9, load_whole harg5, load_whole harg6]
    isplitl [HS0]
    · iexists _; isplitr; · ipureintro; exact harg8.read_unread _
      iexact HS0
    isplitl [HS1]
    · iexists _; isplitr; · ipureintro; exact harg9.read_unread _
      iexact HS1
    iexists _; iexact HW

end Cert.KernelIdeal.Mlp

end
-- ==== Proof.Launch.lean ====
module

public import proofs.«01_k».proof.Proof.BodyA
public import proofs.«01_k».proof.Proof.RunB
public import Idealize.ShloMosaic.Lib.Claim

/-! The launch: what the pipeline's buffers hold at each point, the body's obligation at every point, and the run of the whole program. -/

@[expose] public section

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold -/

/-- What the body leaves in the output block at point `t`: at the first point the chunked computation, at a later one the
whole product, on the point's block of rows and the narrowed weights. -/
def outv (c : Dev nD) (t : Fin cfg0.N) : Vec F S512x1024 .f32 :=
  if t.val = 0 then outA (iblk m c 0 t) (w1b (V m c main_arg1)) (iblk m c 1 t) (w2b (V m c main_arg3)) (iblk m c 2 t) (iblk m c 3 t)
  else k0_pay3 (iblk m c 0 t) (w1b (V m c main_arg1)) (iblk m c 1 t) (w2b (V m c main_arg3)) (iblk m c 2 t) (iblk m c 3 t)

/-- At the first point. -/
theorem outv_first (c : Dev nD) (t : Fin cfg0.N) (h : t.val = 0) :
    outv m c t = outA (iblk m c 0 t) (w1b (V m c main_arg1)) (iblk m c 1 t) (w2b (V m c main_arg3)) (iblk m c 2 t) (iblk m c 3 t) := if_pos h
/-- At a later point. -/
theorem outv_later (c : Dev nD) (t : Fin cfg0.N) (h : ¬ t.val = 0) :
    outv m c t = k0_pay3 (iblk m c 0 t) (w1b (V m c main_arg1)) (iblk m c 1 t) (w2b (V m c main_arg3)) (iblk m c 2 t) (iblk m c 3 t) := if_neg h

/-- The invariant between points once the weights are resident: as `Pipeline.ΦD`, with the two weight buffers at the
narrowed weights. -/
def PhiW (c : Dev nD) : sProp 𝕄 :=
  iprop(iprop(owns (c : Thread nD τ) scM0_0 fullShare (w1b (F := F) (V m c main_arg1)) ∗ owns (c : Thread nD τ) scM0_1 fullShare (w2b (F := F) (V m c main_arg3)) ∗ (∃ d, owns (c : Thread nD τ) scM0_2 fullShare d) ∗ (∃ d, owns (c : Thread nD τ) scM0_3 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg1) ∗ hbPt0 c hbM0_1 (V m c main_arg3)))

/-- The invariant: before the first point nothing is known of the scratch buffers; from then on the weights are resident. -/
def Phi (c : Dev nD) (n : ℕ) : sProp 𝕄 := if n = 0 then Pipeline.ΦD osem0 spec0 H0 (V m) c else PhiW m c

/-- Forgetting that the weights are resident. -/
theorem PhiW_forget (c : Dev nD) : PhiW m c ⊢ (Pipeline.ΦD osem0 spec0 H0 (V m) c : sProp 𝕄) := by
  rw [PhiD0_eq]; unfold PhiW
  iintro ⟨⟨HS0, HS1, HS2, HS3⟩, Hr⟩
  isplitr [Hr]
  · isplitl [HS0]; · iexists _; iexact HS0
    isplitl [HS1]; · iexists _; iexact HS1
    isplitl [HS2]; · iexact HS2
    iexact HS3
  iexact Hr

/-- The pipeline's data on core `c`: the arrays as the region finds them, each input's buffer at its block after the body,
the output's at `outv`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv m c t
  Φ n := Phi m c n.val
  q _ := fullShare
  owed _ := 0

/-- The arrays are what the region finds. -/
theorem A_eq (c : Dev nD) (w : Fin cfg0.W) : (dats m 0 c).A w = V m c (Pipeline.arrRef spec0 w) := by
  dsimp only [dats]

/-- After the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outv m c t := by dsimp only [dats]

/-- Each input's buffer holds its block when the body is called. -/
theorem before0_0 (c : Dev nD) (t : Fin cfg0.N) (d) : (dats m 0 c).before 0 t d = iblk m c 0 t :=
  before0_0_ofD m (dats m 0 c) (A_eq m c 0) (after0_0 m c) t d
theorem before0_1 (c : Dev nD) (t : Fin cfg0.N) (d) : (dats m 0 c).before 1 t d = iblk m c 1 t :=
  before0_1_ofD m (dats m 0 c) (A_eq m c 1) (after0_1 m c) t d
theorem before0_2 (c : Dev nD) (t : Fin cfg0.N) (d) : (dats m 0 c).before 2 t d = iblk m c 2 t :=
  before0_2_ofD m (dats m 0 c) (A_eq m c 2) (after0_2 m c) t d
theorem before0_3 (c : Dev nD) (t : Fin cfg0.N) (d) : (dats m 0 c).before 3 t d = iblk m c 3 t :=
  before0_3_ofD m (dats m 0 c) (A_eq m c 3) (after0_3 m c) t d

/-- The invariant after a point, before the first, and before a later one. -/
theorem Phi_succ (c : Dev nD) (t : Fin cfg0.N) : (dats m 0 c).Φ t.succ = PhiW m c := by
  dsimp only [dats]; unfold Phi; exact if_neg (by rw [Fin.val_succ]; omega)
theorem Phi_first (c : Dev nD) (t : Fin cfg0.N) (h : t.val = 0) : (dats m 0 c).Φ t.castSucc = Pipeline.ΦD osem0 spec0 H0 (V m) c := by
  dsimp only [dats]; unfold Phi; exact if_pos h
theorem Phi_later (c : Dev nD) (t : Fin cfg0.N) (h : ¬ t.val = 0) : (dats m 0 c).Φ t.castSucc = PhiW m c := by
  dsimp only [dats]; unfold Phi; exact if_neg h

/-- The output window is never idle. -/
theorem liveAt0_4 : ∀ t : Fin cfg0.N, cfg0.idle 4 (grid0.coords t) = false :=
  (by decide +kernel : ∀ t : Fin grid0.N, idle0 4 (grid0.coords t) = false)

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, from what it is called with to what it returns: the first point by `bodyA`, a later one by
`runB`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_succ]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 8 := lt_of_lt_of_eq t.isLt (show cfg0.N = 8 from N_0)
  by_cases h0 : t.val = 0
  · rw [Phi_first m c t h0, PhiD0_eq,
      outv_first m c t h0]
    unfold PhiW
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩⟩
    iapply (bodyA c (grid0.coords t) _ _ _ _ _ _ _ _ _ _ _ _ _ _ _ _ _ _ ((hcond0_0 t).mpr (by omega)) (fun h => absurd ((hcond0_1 t).mp h) (by omega)) (iblk m c 0 t) (iblk m c 1 t) (iblk m c 2 t) (iblk m c 3 t) (V m c main_arg1) (V m c main_arg3) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, H4, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · rw [Phi_later m c t h0, outv_later m c t h0]
    unfold PhiW
    iintro ⟨⟨⟨HS0, HS1, HS⟩, Hr⟩, ⟨%W, -, HW⟩, ⟨%d0, H0⟩, ⟨%d1, H1⟩, ⟨%d2, H2⟩, ⟨%d3, H3⟩, ⟨%d4, H4⟩⟩
    iapply (runB c (grid0.coords t) _ _ _ _ _ _ _ _ _ _ _ _ _ _ _ _ _ _ (fun h => absurd ((hcond0_0 t).mp h) (by omega)) ((hcond0_1 t).mpr (by omega)) (iblk m c 0 t) (iblk m c 1 t) (iblk m c 2 t) (iblk m c 3 t) (w1b (V m c main_arg1)) (w2b (V m c main_arg3)) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HW]; · iexact HW
    iintro ⟨H0, H1, H2, H3, H4, HS0, HS1, ⟨%W', HW'⟩⟩
    isplitl [HS0 HS1 HS Hr]
    · isplitl [HS0 HS1 HS]
      · isplitl [HS0]; · iexact HS0
        isplitl [HS1]; · iexact HS1
        iexact HS
      iexact Hr
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

/-- The pipeline calls the body with its point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation of its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair execution of the program ends, with each array of the pipeline holding what the write-backs leave in it,
every other buffer what the lines after the region leave in it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m Variants.none) (hA := A_eq m) (hin := fun _ => .rfl) (hout := fun c => PhiW_forget m c)
    (hQ' := fun _ h => h)

end Cert.KernelIdeal.Mlp

end
-- ==== Proof.Spec.lean ====
module

public import Idealize.ShloMosaic.PureOps.Ideal.Laws
public import Idealize.ShloMosaic.Lib.Pointwise.Sums
public import Mathlib.Tactic.Abel

/-! One row of the computation, on the extended reals: two products with a maximum with zero between them, the row added
back, and the row divided by the root of its mean square. -/

@[expose] public section

noncomputable section

namespace Cert.Row

open Idealize.ShloMosaic
open scoped BigOperators

/-- The number of columns, 1024, as the programs write it. -/
def width : EReal := Ideal.ofBits .f32 0x44800000#32
/-- The small number added under the root, as the programs write it. -/
def small : EReal := Ideal.ofBits .f32 0x358637BD#32

/-- The hidden value at column `k`: the row times a column of the first weight, plus the bias, and not below zero. -/
def hid (x : Fin 1024 → EReal) (W1 : Fin 1024 → Fin 4096 → EReal) (b1 : Fin 4096 → EReal) (k : Fin 4096) : EReal :=
  max ((∑ i, x i * W1 i k) + b1 k) 0

/-- The hidden row times column `j` of the second weight, plus the bias, plus the row itself. -/
def pre (x : Fin 1024 → EReal) (W1 : Fin 1024 → Fin 4096 → EReal) (b1 : Fin 4096 → EReal) (W2 : Fin 4096 → Fin 1024 → EReal)
    (b2 : Fin 1024 → EReal) (j : Fin 1024) : EReal :=
  (∑ k, hid x W1 b1 k * W2 k j) + b2 j + x j

/-- A row divided by the root of its mean square and scaled by column. -/
def norm (y s : Fin 1024 → EReal) (j : Fin 1024) : EReal :=
  y j * Ideal.rsqrt (Ideal.div (∑ k, y k * y k) width + small) * s j

/-- The whole row. -/
def out (x : Fin 1024 → EReal) (W1 : Fin 1024 → Fin 4096 → EReal) (b1 : Fin 4096 → EReal) (W2 : Fin 4096 → Fin 1024 → EReal)
    (b2 s : Fin 1024 → EReal) : Fin 1024 → EReal :=
  norm (pre x W1 b1 W2 b2) s

/-- The part of the second product that 512 of the hidden columns give, from column `512 * i`. -/
def part (x : Fin 1024 → EReal) (W1 : Fin 1024 → Fin 4096 → EReal) (b1 : Fin 4096 → EReal) (W2 : Fin 4096 → Fin 1024 → EReal)
    (j : Fin 1024) (i : Fin 8) : EReal :=
  ∑ t : Fin 512, hid x W1 b1 ⟨512 * i.val + t.val, by omega⟩ * W2 ⟨512 * i.val + t.val, by omega⟩ j

/-- The row before its division is the row plus the bias plus the eight parts, one after the other. -/
theorem pre_eq_parts (x : Fin 1024 → EReal) (W1 : Fin 1024 → Fin 4096 → EReal) (b1 : Fin 4096 → EReal)
    (W2 : Fin 4096 → Fin 1024 → EReal) (b2 : Fin 1024 → EReal) (j : Fin 1024) :
    pre x W1 b1 W2 b2 j
      = x j + b2 j + part x W1 b1 W2 j 0 + part x W1 b1 W2 j 1 + part x W1 b1 W2 j 2 + part x W1 b1 W2 j 3
        + part x W1 b1 W2 j 4 + part x W1 b1 W2 j 5 + part x W1 b1 W2 j 6 + part x W1 b1 W2 j 7 := by
  have e : (∑ k, hid x W1 b1 k * W2 k j) = ∑ i : Fin 8, part x W1 b1 W2 j i := by
    rw [Fin.sum_univ_tiles 8 512 rfl]
    refine Finset.sum_congr rfl fun i _ => Finset.sum_congr rfl fun t _ => ?_
    have h : (⟨i.val * 512 + t.val, by omega⟩ : Fin 4096) = ⟨512 * i.val + t.val, by omega⟩ := Fin.ext (by simp only; omega)
    rw [h]
  rw [pre, e, Fin.sum_univ_eight]
  abel

end Cert.Row

end
-- ==== Proof.Block.lean ====
module

public import proofs.«01_k».proof.Proof.ValA
public import proofs.«01_k».proof.Proof.Spec
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.ValueKit.Tiles

/-! What each grid point computes, row by row on the extended reals: the first point in chunks, the others at once, and
both the row of `Cert.Row.out`. -/

@[expose] public section

set_option maxRecDepth 16384

noncomputable section

namespace Cert.KernelIdeal.Mlp

open Cert.KernelIdeal.Gen
open Idealize.ShloMosaic hiding ix1 ix2 ix3
open Idealize.ShloMosaic.ValueIdx
open scoped BigOperators

/-! ## The operations both ways share, at an index -/

/-- A matrix product into zero. -/
def prod {M K N : ℕ} (lhs : FVec Ideal ⟨2, ![M, K]⟩ .bf16) (rhs : FVec Ideal ⟨2, ![K, N]⟩ .bf16) : FVec Ideal ⟨2, ![M, N]⟩ .f32 :=
  matmul (DotDims.plain M K N) none lhs rhs (constant ⟨2, ![M, N]⟩ .f32 0x00000000#32)

/-- A matrix product into zero, at an index. -/
theorem prod_apply {M K N : ℕ} (lhs : FVec Ideal ⟨2, ![M, K]⟩ .bf16) (rhs : FVec Ideal ⟨2, ![K, N]⟩ .bf16) (r : Fin M) (c : Fin N) :
    prod lhs rhs (ix2 r c) = ∑ k : Fin K, lhs (ix2 r k) * rhs (ix2 k c) := by
  refine (Ideal.matmul_plain_apply none lhs rhs _ r c).trans ?_
  rw [show constant (F := Ideal) ⟨2, ![M, N]⟩ .f32 0x00000000#32 (ix2 r c) = (0 : EReal) from Ideal.ofBits_zero_f32, zero_add]

/-- A row cast to its own shape and laid over many rows reads the row. -/
theorem row_apply {a b : ℕ} {α : Type} (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (r : Fin a) (c : Fin b) :
    broadcastTo ⟨2, ![a, b]⟩ (shapeCast ⟨2, ![1, b]⟩ v hc) h (ix2 r c) = v (ix2 0 c) := by
  rw [broadcastTo_1b_ab_apply]
  exact shapeCast_apply v hc _ _ rfl

/-- The division by the root of the mean square, as the kernel spells it. -/
def tail (y : FVec Ideal S512x1024 .f32) (s : Vec Ideal S1x1024 .f32) : FVec Ideal S512x1024 .f32 :=
  mulf (mulf y (broadcastTo S512x1024 (rsqrt (addf (divf (shapeCast S512x1 (multiReduction .add [1] S512 (mulf y y) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 s shapeCasts_S1x1024_S1x1024) broadcasts_S1x1024_S512x1024)

/-- A row's sum of squares, as the kernel spells it. -/
theorem sumSq_apply (y : FVec Ideal S512x1024 .f32) (r : Fin 512) :
    multiReduction .add [1] S512 (mulf y y) 0x00000000#32 reduces_S512x1024_S512 (.inl rfl) rfl (ix1 r)
      = ∑ k : Fin 1024, y (ix2 r k) * y (ix2 r k) := by
  refine (Ideal.multiReduction_add_single (mulf y y) _ reduces_S512x1024_S512 (.inl rfl) rfl (ix1 r)).trans ?_
  refine Finset.sum_congr rfl fun k _ => ?_
  have e : reduces_S512x1024_S512.lift (ix1 r) k = ix2 r k := by
    funext a; apply Fin.ext
    match a with
    | ⟨0, _⟩ => rfl
    | ⟨1, _⟩ => rfl
  rw [e]; rfl

/-- The division at an index is the row's. -/
theorem tail_apply (y : FVec Ideal S512x1024 .f32) (s : Vec Ideal S1x1024 .f32) (r : Fin 512) (j : Fin 1024) :
    tail y s (ix2 r j) = Row.norm (fun k => y (ix2 r k)) (fun k => s (ix2 0 k)) j := by
  unfold tail
  rw [mulf_apply, mulf_apply, row_apply,
    broadcastTo_apply _ broadcasts_S512x1_S512x1024 (ix2 r j) (ix2 r 0) (fun a => by
      match a with
      | ⟨0, _⟩ => rfl
      | ⟨1, _⟩ => rfl)]
  show _ * Ideal.rsqrt (Ideal.div (shapeCast S512x1 _ shapeCasts_S512_S512x1 (ix2 r 0)) _ + _) * _ = _
  rw [shapeCast_a_a1_apply, sumSq_apply]
  rfl

/-! ## A point after the first -/

/-- All the hidden values of a block, as a point after the first makes them. -/
def hiddenAll (x : Vec Ideal S512x1024 .f32) (w1 : Vec Ideal S1024x4096 .bf16) (b1 : Vec Ideal S1x4096 .f32) : FVec Ideal S512x4096 .bf16 :=
  truncf .bf16 (maximumf (addf (prod (truncf .bf16 (shapeCast S512x1024 x shapeCasts_S512x1024_S512x1024) bitsLt_bf16_f32) w1)
    (broadcastTo S512x4096 (shapeCast S1x4096 b1 shapeCasts_S1x4096_S1x4096) broadcasts_S1x4096_S512x4096))
    (broadcast S512x4096 (Scalar.ofBits .f32 0x00000000#32))) bitsLt_bf16_f32

/-- They are the row's hidden values. -/
theorem hiddenAll_apply (x : Vec Ideal S512x1024 .f32) (w1 : Vec Ideal S1024x4096 .bf16) (b1 : Vec Ideal S1x4096 .f32) (r : Fin 512) (k : Fin 4096) :
    hiddenAll x w1 b1 (ix2 r k) = Row.hid (fun i => x (ix2 r i)) (fun i k => w1 (ix2 i k)) (fun k => b1 (ix2 0 k)) k := by
  show max (prod (M := 512) (K := 1024) (N := 4096) (truncf (F := Ideal) (φ := .f32) .bf16 (shapeCast S512x1024 x shapeCasts_S512x1024_S512x1024) bitsLt_bf16_f32) w1 (ix2 r k)
    + broadcastTo S512x4096 (shapeCast S1x4096 b1 shapeCasts_S1x4096_S1x4096) broadcasts_S1x4096_S512x4096 (ix2 r k))
    (Ideal.ofBits .f32 0x00000000#32) = _
  rw [prod_apply, row_apply, Ideal.ofBits_zero_f32]
  unfold Row.hid
  refine congrArg (fun z => max (z + _) 0) (Finset.sum_congr rfl fun i _ => congrArg (· * w1 (ix2 i k)) ?_)
  exact shapeCast_apply x shapeCasts_S512x1024_S512x1024 _ _ rfl

/-- A later point's row is the row. -/
theorem pay3_apply (x : Vec Ideal S512x1024 .f32) (w1 : Vec Ideal S1024x4096 .bf16) (b1 : Vec Ideal S1x4096 .f32)
    (w2 : Vec Ideal S4096x1024 .bf16) (b2 s : Vec Ideal S1x1024 .f32) (r : Fin 512) (j : Fin 1024) :
    k0_pay3 x w1 b1 w2 b2 s (ix2 r j)
      = Row.out (fun i => x (ix2 r i)) (fun i k => w1 (ix2 i k)) (fun k => b1 (ix2 0 k)) (fun k j => w2 (ix2 k j))
          (fun j => b2 (ix2 0 j)) (fun j => s (ix2 0 j)) j := by
  refine (tail_apply (addf (addf (prod (hiddenAll x w1 b1) w2) (broadcastTo S512x1024 (shapeCast S1x1024 b2 shapeCasts_S1x1024_S1x1024)
      broadcasts_S1x1024_S512x1024)) (shapeCast S512x1024 x shapeCasts_S512x1024_S512x1024)) s r j).trans ?_
  unfold Row.out
  refine congrArg (fun y => Row.norm y _ j) (funext fun c => ?_)
  rw [addf_apply, addf_apply, row_apply, shapeCast_apply x shapeCasts_S512x1024_S512x1024 (ix2 r c) (ix2 r c) rfl]
  unfold Row.pre
  refine congrArg (fun z => z + b2 (ix2 0 c) + x (ix2 r c)) ?_
  refine (prod_apply (hiddenAll x w1 b1) w2 r c).trans ?_
  exact Finset.sum_congr rfl fun k _ => congrArg (· * w2 (ix2 k c)) (hiddenAll_apply x w1 b1 r k)

/-! ## The first point -/

section First

variable (x : Vec Ideal S512x1024 .f32) (w1 : Vec Ideal S1024x4096 .bf16) (b1 : Vec Ideal S1x4096 .f32)
  (w2 : Vec Ideal S4096x1024 .bf16) (b2 s : Vec Ideal S1x1024 .f32)

/-- A chunk of the hidden values at an index. -/
theorem hidden_apply (k : Fin 4) (r : Fin 512) (q : Fin 1024) :
    hidden x w1 b1 k (ix2 r q)
      = Row.hid (fun i => x (ix2 r i)) (fun i k => w1 (ix2 i k)) (fun k => b1 (ix2 0 k)) ⟨1024 * k.val + q.val, by omega⟩ := by
  show max (prod (M := 512) (K := 1024) (N := 1024) (k0_pay5 x) (View.ld w1 (cols1 k)) (ix2 r q)
    + broadcastTo S512x1024 (shapeCast S1x1024 (View.ld b1 (colsB k)) shapeCasts_S1x1024_S1x1024) broadcasts_S1x1024_S512x1024 (ix2 r q))
    (Ideal.ofBits .f32 0x00000000#32) = _
  rw [prod_apply, row_apply, Ideal.ofBits_zero_f32]
  unfold Row.hid
  have eb : View.ld b1 (colsB k) (ix2 (0 : Fin 1) q) = b1 (ix2 0 ⟨1024 * k.val + q.val, by omega⟩) :=
    View.ld_unit_apply_of b1 _ _ _ _ _ (fun a => by
      match a with
      | ⟨0, _⟩ => rfl
      | ⟨1, _⟩ => rfl)
  rw [eb]
  refine congrArg (fun z => max (z + _) 0) (Finset.sum_congr rfl fun i _ => congrArg₂ (· * ·) ?_ ?_)
  · exact shapeCast_apply x shapeCasts_S512x1024_S512x1024 _ _ rfl
  · exact View.ld_unit_apply_of w1 _ _ _ _ _ (fun a => by
      match a with
      | ⟨0, _⟩ => exact (Nat.zero_add _).symm
      | ⟨1, _⟩ => rfl)

/-- A slice of the hidden values times its rows of the second weight is a part of the second product. -/
theorem part_apply (k : Fin 4) (i : Fin 8) (o : ℕ) (h : S512x1024.Slices ![0, o] S512x512) (ho : 512 * i.val = 1024 * k.val + o) (hb : o + 512 ≤ 1024)
    (r : Fin 512) (j : Fin 1024) :
    prod (M := 512) (K := 512) (N := 1024) (extractStridedSlice S512x512 ![0, o] (hidden x w1 b1 k) h) (View.ld w2 (rows2 i)) (ix2 r j)
      = Row.part (fun i => x (ix2 r i)) (fun i k => w1 (ix2 i k)) (fun k => b1 (ix2 0 k)) (fun k j => w2 (ix2 k j)) j i := by
  rw [prod_apply]
  unfold Row.part
  refine Finset.sum_congr rfl fun t _ => congrArg₂ (· * ·) ?_ ?_
  · refine (slice2_axis1_apply o (hidden x w1 b1 k) h r t ⟨o + t.val, by omega⟩ rfl).trans ((hidden_apply x w1 b1 k r _).trans ?_)
    exact congrArg (Row.hid _ _ _) (Fin.ext (by show 1024 * k.val + (o + t.val) = 512 * i.val + t.val; omega))
  · exact View.ld_unit_apply_of w2 _ _ _ _ _ (fun a => by
      match a with
      | ⟨0, _⟩ => rfl
      | ⟨1, _⟩ => exact (Nat.zero_add _).symm)

/-- The first half of a chunk adds the even part. -/
theorem accFst_apply (acc : FVec Ideal S512x1024 .f32) (k : Fin 4) (i : Fin 8) (hi : i.val = 2 * k.val) (r : Fin 512) (j : Fin 1024) :
    accFst acc (hidden x w1 b1 k) (View.ld w2 (rows2 i)) (ix2 r j)
      = acc (ix2 r j) + Row.part (fun i => x (ix2 r i)) (fun i k => w1 (ix2 i k)) (fun k => b1 (ix2 0 k)) (fun k j => w2 (ix2 k j)) j i :=
  congrArg (acc (ix2 r j) + ·) (part_apply x w1 b1 w2 k i 0 slices_S512x1024_o0_0_S512x512 (by omega) (by omega) r j)

/-- The second half of a chunk adds the odd part. -/
theorem accSnd_apply (acc : FVec Ideal S512x1024 .f32) (k : Fin 4) (i : Fin 8) (hi : i.val = 2 * k.val + 1) (r : Fin 512) (j : Fin 1024) :
    accSnd acc (hidden x w1 b1 k) (View.ld w2 (rows2 i)) (ix2 r j)
      = acc (ix2 r j) + Row.part (fun i => x (ix2 r i)) (fun i k => w1 (ix2 i k)) (fun k => b1 (ix2 0 k)) (fun k j => w2 (ix2 k j)) j i :=
  congrArg (acc (ix2 r j) + ·) (part_apply x w1 b1 w2 k i 512 slices_S512x1024_o0_512_S512x512 (by omega) (by omega) r j)

/-- One chunk adds its two parts. -/
theorem accA_succ_apply (n : ℕ) (k : Fin 4) (hk : n = k.val) (i i' : Fin 8) (hi : i.val = 2 * k.val) (hi' : i'.val = 2 * k.val + 1)
    (r : Fin 512) (j : Fin 1024) :
    accA x w1 b1 w2 b2 (n + 1) (ix2 r j)
      = accA x w1 b1 w2 b2 n (ix2 r j)
        + Row.part (fun i => x (ix2 r i)) (fun i k => w1 (ix2 i k)) (fun k => b1 (ix2 0 k)) (fun k j => w2 (ix2 k j)) j i
        + Row.part (fun i => x (ix2 r i)) (fun i k => w1 (ix2 i k)) (fun k => b1 (ix2 0 k)) (fun k j => w2 (ix2 k j)) j i' := by
  subst hk
  have hb : ∀ k : Fin 4, 2 * k.val + 1 < 8 := by decide
  obtain rfl : i = ⟨2 * k.val, Nat.lt_of_succ_lt (hb k)⟩ := Fin.ext hi
  obtain rfl : i' = ⟨2 * k.val + 1, hb k⟩ := Fin.ext hi'
  have ea : accA x w1 b1 w2 b2 (k.val + 1) = accSnd (accFst (accA x w1 b1 w2 b2 k.val) (hidden x w1 b1 k) (View.ld w2 (rows2 ⟨2 * k.val, by omega⟩)))
      (hidden x w1 b1 k) (View.ld w2 (rows2 ⟨2 * k.val + 1, by omega⟩)) := dif_pos k.isLt
  rw [ea, accSnd_apply x w1 b1 w2 _ k _ rfl, accFst_apply x w1 b1 w2 _ k _ rfl]

/-- The first point's row is the same row. -/
theorem outA_apply (r : Fin 512) (j : Fin 1024) :
    outA x w1 b1 w2 b2 s (ix2 r j)
      = Row.out (fun i => x (ix2 r i)) (fun i k => w1 (ix2 i k)) (fun k => b1 (ix2 0 k)) (fun k j => w2 (ix2 k j))
          (fun j => b2 (ix2 0 j)) (fun j => s (ix2 0 j)) j := by
  refine (tail_apply (accSnd (accFst (accA x w1 b1 w2 b2 3) (hidden x w1 b1 3) (View.ld w2 (rows2 6))) (hidden x w1 b1 3)
    (View.ld w2 (rows2 7))) s r j).trans ?_
  unfold Row.out
  refine congrArg (fun y => Row.norm y _ j) (funext fun c => ?_)
  rw [Row.pre_eq_parts, accSnd_apply x w1 b1 w2 _ 3 7 rfl, accFst_apply x w1 b1 w2 _ 3 6 rfl,
    accA_succ_apply x w1 b1 w2 b2 2 2 rfl 4 5 rfl rfl, accA_succ_apply x w1 b1 w2 b2 1 1 rfl 2 3 rfl rfl,
    accA_succ_apply x w1 b1 w2 b2 0 0 rfl 0 1 rfl rfl]
  have e0 : accA x w1 b1 w2 b2 0 (ix2 r c) = x (ix2 r c) + b2 (ix2 0 c) :=
    congrArg₂ (· + ·) (shapeCast_apply x shapeCasts_S512x1024_S512x1024 _ _ rfl) (row_apply b2 _ _ r c)
  rw [e0]

end First

end Cert.KernelIdeal.Mlp

end
-- ==== Proof.Array.lean ====
module

public import proofs.«01_k».proof.Proof.Launch
public import proofs.«01_k».proof.Proof.Block
public import Idealize.ShloMosaic.Lib.Pipeline.ValueKit

/-! What the kernel's output array holds after the run: row by row, `Cert.Row.out` of the input's rows. -/

@[expose] public section

set_option maxRecDepth 16384

noncomputable section

namespace Cert.KernelIdeal.Mlp

open Cert.KernelIdeal.Gen
open Idealize.ShloMosaic hiding ix1 ix2 ix3
open Idealize.ShloMosaic.TcCoe Idealize.ShloMosaic.ValueIdx
open Idealize.ShloMosaic.Pipeline (Dat Cfg Window)

variable (m : (ℓ : Loc nD τ sig) → Buf (Elt Ideal) ℓ)

/-- The input's rows as the region finds them. -/
abbrev xArr (c : Dev nD) : S4096x1024.Idx → EReal := V m c main_v0
/-- The first weight. -/
abbrev w1Arr (c : Dev nD) : S1024x4096.Idx → EReal := V m c main_arg1
/-- The first bias. -/
abbrev b1Arr (c : Dev nD) : S1x4096.Idx → EReal := V m c main_v1
/-- The second weight. -/
abbrev w2Arr (c : Dev nD) : S4096x1024.Idx → EReal := V m c main_arg3
/-- The second bias. -/
abbrev b2Arr (c : Dev nD) : S1x1024.Idx → EReal := V m c main_v2
/-- The scale. -/
abbrev sArr (c : Dev nD) : S1x1024.Idx → EReal := V m c main_v3

/-- The array the run leaves: each row the computation of the input's row. -/
def rowsOut (c : Dev nD) : S4096x1024.Idx → EReal := fun i =>
  Row.out (fun k => xArr m c (ix2 (i 0) k)) (fun i k => w1Arr m c (ix2 i k)) (fun k => b1Arr m c (ix2 0 k)) (fun k j => w2Arr m c (ix2 k j))
    (fun j => b2Arr m c (ix2 0 j)) (fun j => sArr m c (ix2 0 j)) (i 1)

/-- Where each window's block lies: the input's and the output's move down with the point, the others stay. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0) :=
  (by decide +kernel : ∀ t : Fin grid0.N, _)

/-- A point's row of the array. -/
def rowAt (t : Fin cfg0.N) (r : Fin 512) : Fin 4096 := ⟨512 * t.val + r.val, by have h : t.val < 8 := t.isLt; omega⟩

/-- The input's block. -/
theorem iblk0_apply (c : Dev nD) (t : Fin cfg0.N) (r : Fin 512) (k : Fin 1024) :
    iblk m c 0 t (ix2 r k) = xArr m c (ix2 (rowAt t r) k) := by
  obtain ⟨⟨e0, e1⟩, _⟩ := idx_facts t
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

/-- The first bias's block is the array. -/
theorem iblk1_apply (c : Dev nD) (t : Fin cfg0.N) (k : Fin 4096) : iblk m c 1 t (ix2 0 k) = b1Arr m c (ix2 0 k) := by
  obtain ⟨_, ⟨e0, e1⟩, _⟩ := idx_facts t
  show V m c main_v1 (((cfg0.win 1).blk t).view.emb (ix2 0 k)) = _
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

/-- The second bias's block is the array. -/
theorem iblk2_apply (c : Dev nD) (t : Fin cfg0.N) (k : Fin 1024) : iblk m c 2 t (ix2 0 k) = b2Arr m c (ix2 0 k) := by
  obtain ⟨_, _, ⟨e0, e1⟩, _⟩ := idx_facts t
  show V m c main_v2 (((cfg0.win 2).blk t).view.emb (ix2 0 k)) = _
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The scale's block is the array. -/
theorem iblk3_apply (c : Dev nD) (t : Fin cfg0.N) (k : Fin 1024) : iblk m c 3 t (ix2 0 k) = sArr m c (ix2 0 k) := by
  obtain ⟨_, _, _, ⟨e0, e1⟩, _⟩ := idx_facts t
  show V m c main_v3 (((cfg0.win 3).blk t).view.emb (ix2 0 k)) = _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

/-- Where an element of the output's block lies in the array. -/
theorem emb4 (t : Fin cfg0.N) (r : Fin 512) (j : Fin 1024) : ((cfg0.win 4).blk t).view.emb (ix2 r j) = ix2 (rowAt t r) j := by
  obtain ⟨_, _, _, _, e0, e1⟩ := idx_facts t
  funext a; apply Fin.ext
  match a with
  | ⟨0, _⟩ => show win0_4.index t (0 : Fin 2) * 512 + 1 * r.val = 512 * t.val + r.val; omega
  | ⟨1, _⟩ => show win0_4.index t (1 : Fin 2) * 1024 + 1 * j.val = j.val; omega

/-- What a point leaves in its output block, at an index: the first point's chunks and a later point's whole products alike. -/
theorem outv_apply (c : Dev nD) (t : Fin cfg0.N) (r : Fin 512) (j : Fin 1024) :
    outv m c t (ix2 r j) = rowsOut m c (ix2 (rowAt t r) j) := by
  have e : outv m c t (ix2 r j) = Row.out (fun k => iblk m c 0 t (ix2 r k)) (fun i k => w1Arr m c (ix2 i k)) (fun k => iblk m c 1 t (ix2 0 k))
      (fun k j => w2Arr m c (ix2 k j)) (fun j => iblk m c 2 t (ix2 0 j)) (fun j => iblk m c 3 t (ix2 0 j)) j := by
    by_cases h : t.val = 0
    · rw [outv_first m c t h]; exact outA_apply _ _ _ _ _ _ r j
    · rw [outv_later m c t h]; exact pay3_apply _ _ _ _ _ _ r j
  rw [e]
  simp only [iblk0_apply, iblk1_apply, iblk2_apply, iblk3_apply]
  rfl

/-- The output array after the run. -/
theorem arr_out (c : Dev nD) : (dats m 0 c).arrAt 4 cfg0.N = rowsOut m c := by
  refine (dats m 0 c).arrAt_eq_of_covers 4 _ (by decide +kernel) fun t _ y => ?_
  show (dats m 0 c).after 4 t _ = _
  rw [after0_4]
  obtain ⟨r, j, rfl⟩ : ∃ (r : Fin 512) (j : Fin 1024), y = ix2 r j := ⟨y 0, y 1, ValueIdx.eq_ix2 y⟩
  refine (outv_apply m c t r j).trans ?_
  exact (congrArg (rowsOut m c) (emb4 t r j)).symm

end Cert.KernelIdeal.Mlp

end
-- ==== Proof.Kept.lean ====
module

public import proofs.«01_k».proof.Proof.Launch

/-! The arguments after the run, at any floats: unchanged. -/

@[expose] public section

set_option maxRecDepth 16384

noncomputable section

namespace Cert.KernelIdeal.Mlp

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Neither the kernel nor the line after it writes a buffer that is none of the pipeline's arrays and not the result's. -/
theorem tail_other (c : Dev nD) (b : Ref sig .tc) (hb : ∀ w, Pipeline.arrRef spec0 w ≠ b) (h : b ≠ main_v5) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h)),
    Pipeline.withArrays_of_ne _ c (V0 m c) _ b hb]

/-- The six arguments end as they began. -/
theorem kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have keep := fun (b : Ref sig .tc) (hs : b.isScoped = false) (hb : ∀ w, Pipeline.arrRef spec0 w ≠ b) (hv : b ≠ main_v5) =>
    ((h c).2 b (Pipeline.mem_restRefs_of b hs hb)).trans (tail_other m c b hb hv)
  exact ⟨(keep main_arg0 (by decide) (by decide) (by decide)).trans (V_main_arg0 m c),
    (keep main_arg1 (by decide) (by decide) (by decide)).trans (V_main_arg1 m c),
    (keep main_arg2 (by decide) (by decide) (by decide)).trans (V_main_arg2 m c),
    (keep main_arg3 (by decide) (by decide) (by decide)).trans (V_main_arg3 m c),
    (keep main_arg4 (by decide) (by decide) (by decide)).trans (V_main_arg4 m c),
    (keep main_arg5 (by decide) (by decide) (by decide)).trans (V_main_arg5 m c)⟩

/-- Every fair execution of the program ends, with its arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨kept m h.1, h.2⟩) (run_main m ρ)

end Cert.KernelIdeal.Mlp

end
-- ==== Proof.Main.lean ====
module

public import proofs.«01_k».proof.Proof.Array
public import proofs.«01_k».proof.Proof.Kept

/-! The whole program around the kernel: what the reshapes before it hand over, and what the reshape after it returns. -/

@[expose] public section

set_option maxRecDepth 16384

noncomputable section

namespace Cert.KernelIdeal.Mlp

open Cert.KernelIdeal.Gen
open Idealize.ShloMosaic hiding ix1 ix2 ix3
open Idealize.ShloMosaic.TcCoe Idealize.ShloMosaic.ValueIdx Idealize.SL.Sem

variable (m : (ℓ : Loc nD τ sig) → Buf (Elt Ideal) ℓ) (ρ : Dev nD → PrngReg)

/-- The row of the flat array that a row of the stacked one is. -/
def flat (a : Fin 2) (b : Fin 2048) : Fin 4096 := ⟨2048 * a.val + b.val, by omega⟩

/-- A flat array read off a stacked one. -/
theorem flatten_apply (f : S2x2048x1024.Idx → EReal) (h : S2x2048x1024.ShapeCasts S4096x1024) (a : Fin 2) (b : Fin 2048) (k : Fin 1024) :
    shapeCast S4096x1024 f h (ix2 (flat a b) k) = f (ix3 a b k) := by
  refine shapeCast_apply f h _ _ ?_
  rw [Shape.rowMajor_val_two, Shape.rowMajor_val_three]
  show (a.val * 2048 + b.val) * 1024 + k.val = (2048 * a.val + b.val) * 1024 + k.val
  omega

/-- A stacked array read off a flat one. -/
theorem stack_apply (f : S4096x1024.Idx → EReal) (h : S4096x1024.ShapeCasts S2x2048x1024) (a : Fin 2) (b : Fin 2048) (k : Fin 1024) :
    shapeCast S2x2048x1024 f h (ix3 a b k) = f (ix2 (flat a b) k) := by
  refine shapeCast_apply f h _ _ ?_
  rw [Shape.rowMajor_val_two, Shape.rowMajor_val_three]
  show (2048 * a.val + b.val) * 1024 + k.val = (a.val * 2048 + b.val) * 1024 + k.val
  omega

/-- The kernel finds the input's rows flattened. -/
theorem xArr_eq (c : Dev nD) : xArr m c = shapeCast S4096x1024 (m ((c : Thread nD τ).loc main_arg0)) shapeCasts_S2x2048x1024_S4096x1024 := by
  show StableHlo.after (List.flatten [hostOps0]) (fun b => m (c, b)) (Proc.devRef .tc main_v0) = _
  simp only [hostOps0, List.flatten_cons, List.flatten_nil, List.append_nil]
  after_results
  rfl

/-- The kernel finds the first bias as a row. -/
theorem b1Arr_eq (c : Dev nD) : b1Arr m c = shapeCast S1x4096 (m ((c : Thread nD τ).loc main_arg2)) shapeCasts_S4096_S1x4096 := by
  show StableHlo.after (List.flatten [hostOps0]) (fun b => m (c, b)) (Proc.devRef .tc main_v1) = _
  simp only [hostOps0, List.flatten_cons, List.flatten_nil, List.append_nil]
  after_results
  rfl

/-- The kernel finds the second bias as a row. -/
theorem b2Arr_eq (c : Dev nD) : b2Arr m c = shapeCast S1x1024 (m ((c : Thread nD τ).loc main_arg4)) shapeCasts_S1024_S1x1024 := by
  show StableHlo.after (List.flatten [hostOps0]) (fun b => m (c, b)) (Proc.devRef .tc main_v2) = _
  simp only [hostOps0, List.flatten_cons, List.flatten_nil, List.append_nil]
  after_results
  rfl

/-- The kernel finds the scale as a row. -/
theorem sArr_eq (c : Dev nD) : sArr m c = shapeCast S1x1024 (m ((c : Thread nD τ).loc main_arg5)) shapeCasts_S1024_S1x1024 := by
  show StableHlo.after (List.flatten [hostOps0]) (fun b => m (c, b)) (Proc.devRef .tc main_v3) = _
  simp only [hostOps0, List.flatten_cons, List.flatten_nil, List.append_nil]
  after_results
  rfl

/-- A row of the array the kernel leaves, in the program's own arguments. -/
theorem rowsOut_flat (c : Dev nD) (a : Fin 2) (b : Fin 2048) (j : Fin 1024) :
    rowsOut m c (ix2 (flat a b) j)
      = Row.out (fun i => m ((c : Thread nD τ).loc main_arg0) (ix3 a b i)) (fun i k => m ((c : Thread nD τ).loc main_arg1) (ix2 i k))
          (fun k => m ((c : Thread nD τ).loc main_arg2) (ix1 k)) (fun k j => m ((c : Thread nD τ).loc main_arg3) (ix2 k j))
          (fun j => m ((c : Thread nD τ).loc main_arg4) (ix1 j)) (fun j => m ((c : Thread nD τ).loc main_arg5) (ix1 j)) j := by
  show Row.out (fun k => xArr m c (ix2 (flat a b) k)) (fun i k => w1Arr m c (ix2 i k)) (fun k => b1Arr m c (ix2 0 k))
    (fun k j => w2Arr m c (ix2 k j)) (fun j => b2Arr m c (ix2 0 j)) (fun j => sArr m c (ix2 0 j)) j = _
  rw [xArr_eq, b1Arr_eq, b2Arr_eq, sArr_eq, show w1Arr m c = _ from V_main_arg1 m c, show w2Arr m c = _ from V_main_arg3 m c]
  simp only [shapeCast_a_1a_apply]
  exact congrArg (fun x => Row.out x _ _ _ _ _ j) (funext fun k => flatten_apply _ _ a b k)

/-- The program's result: the kernel's array, its rows stacked. -/
def result (c : Dev nD) : S2x2048x1024.Idx → EReal := shapeCast S2x2048x1024 (rowsOut m c) shapeCasts_S4096x1024_S2x2048x1024

/-- The line after the kernel leaves the result in its buffer. -/
theorem tail_result (c : Dev nD) : Pipeline.afterTail₀ cfgs (dats m) 0 (V0 m) [hostOps1] c main_v5 = result m c := by
  have e := (Pipeline.withArrays_arr spec0 launch0.win.arr_inj c (V0 m c) (fun w => (dats m 0 c).arrAt w cfg0.N) 4).trans (arr_out m c)
  unfold Pipeline.afterTail₀
  simp only [hostOps1, List.flatten_cons, List.flatten_nil, List.append_nil]
  after_results
  exact congrArg (fun f => shapeCast S2x2048x1024 f shapeCasts_S4096x1024_S2x2048x1024) e

/-- What a run of the whole program ends in: the result, the arguments unchanged, and every semaphore at zero. -/
theorem run_all : θ_run defs (onTc (τ := τ) (main (F := Ideal))) ⟨m, fun _ => 0, ρ⟩ (fun r => (∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨((h.1 c).2 main_v5 (Pipeline.mem_restRefs_of main_v5 (by decide) (by decide))).trans (tail_result m c), kept m h.1 c⟩, h.2⟩)
    (run_main m ρ)

end Cert.KernelIdeal.Mlp

end
-- ==== Proof.Ref.lean ====
module

public import proofs.«01_k».proof.Proof.Gen.ReferenceIdeal
public import proofs.«01_k».proof.Proof.Gen.ReferenceIdeal.Run
public import proofs.«01_k».proof.Proof.Spec
public import Idealize.ShloMosaic.Lib.ValueIdx
public import Idealize.ShloMosaic.Lib.IdealHost
public import Idealize.ShloMosaic.Lib.Pipeline.Value

/-! What the reference computes: each row of its result is `Cert.Row.out` of the row. -/

@[expose] public section

set_option maxRecDepth 16384

noncomputable section

namespace Cert.ReferenceIdeal.Mlp

open Cert.ReferenceIdeal Cert.ReferenceIdeal.Gen
open Idealize.ShloMosaic hiding ix1 ix2 ix3
open Idealize.ShloMosaic.ValueIdx
open scoped BigOperators

/-- The dimension numbers of a stack of rows times a matrix. -/
def stackDims (A B K N : ℕ) (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

/-- A stack of rows times a matrix. -/
def stackProd {A B K N : ℕ} (wf : DotDims.WF ⟨3, ![A, B, K]⟩ ⟨2, ![K, N]⟩ ⟨3, ![A, B, N]⟩ [2] [0] [0, 1] [1] [] [])
    (lhs : FVec Ideal ⟨3, ![A, B, K]⟩ .f32) (rhs : FVec Ideal ⟨2, ![K, N]⟩ .f32) : FVec Ideal ⟨3, ![A, B, N]⟩ .f32 :=
  Host.dotGeneral (stackDims A B K N wf) none lhs rhs

/-- A stack of rows times a matrix, at an index. -/
theorem stackProd_apply {A B K N : ℕ} (wf : DotDims.WF ⟨3, ![A, B, K]⟩ ⟨2, ![K, N]⟩ ⟨3, ![A, B, N]⟩ [2] [0] [0, 1] [1] [] [])
    (lhs : FVec Ideal ⟨3, ![A, B, K]⟩ .f32) (rhs : FVec Ideal ⟨2, ![K, N]⟩ .f32) (a : Fin A) (b : Fin B) (c : Fin N) :
    stackProd wf lhs rhs (ix3 a b c) = ∑ k : Fin K, lhs (ix3 a b k) * rhs (ix2 k c) := by
  unfold stackProd
  simp only [Host.dotGeneral]
  rw [Ideal.dotGeneral_apply, ← Equiv.sum_comp (contrEquiv1 (stackDims A B K N wf) K rfl rfl).symm]
  refine Finset.sum_congr rfl fun k _ => ?_
  have hk := contrEquiv1_symm_val (stackDims A B K N wf) K rfl rfl k
  have el : (stackDims A B K N wf).lhsIdx (ix3 a b c) ((contrEquiv1 (stackDims A B K N wf) K rfl rfl).symm k) = ix3 a b k := by
    funext x; apply Fin.ext
    match x with
    | ⟨0, _⟩ => rfl
    | ⟨1, _⟩ => rfl
    | ⟨2, _⟩ => exact hk
  have er : (stackDims A B K N wf).rhsIdx (ix3 a b c) ((contrEquiv1 (stackDims A B K N wf) K rfl rfl).symm k) = ix2 k c := by
    funext x; apply Fin.ext
    match x with
    | ⟨0, _⟩ => exact hk
    | ⟨1, _⟩ => rfl
  rw [el, er]

/-- A vector laid along the last axis of a stack of rows reads the vector. -/
theorem last_apply {A B N : ℕ} {α : Type} (v : (⟨1, ![N]⟩ : Shape).Idx → α) (h : (⟨1, ![N]⟩ : Shape).BroadcastsInDim ⟨3, ![1, 1, N]⟩ ![2])
    (h' : (⟨3, ![1, 1, N]⟩ : Shape).BroadcastsInDim ⟨3, ![A, B, N]⟩ ![0, 1, 2]) (a : Fin A) (b : Fin B) (c : Fin N) :
    broadcastInDim ⟨3, ![A, B, N]⟩ ![0, 1, 2] h' (broadcastInDim ⟨3, ![1, 1, N]⟩ ![2] h v) (ix3 a b c) = v (ix1 c) := by
  have hc : c.val = if N = 1 then 0 else c.val := by
    split
    · have := c.isLt; omega
    · rfl
  refine (broadcastInDim_apply _ h' _ (ix3 a b c) (ix3 0 0 c) (fun x => ?_)).trans (broadcastInDim_apply _ h v (ix3 0 0 c) (ix1 c) (fun x => ?_))
  · match x with
    | ⟨0, _⟩ => rfl
    | ⟨1, _⟩ => rfl
    | ⟨2, _⟩ => exact hc
  · match x with
    | ⟨0, _⟩ => exact hc

section Value

variable (x : FVec Ideal S2x2048x1024 .f32) (W1 : FVec Ideal S1024x4096 .f32) (b1 : FVec Ideal S4096 .f32)
  (W2 : FVec Ideal S4096x1024 .f32) (b2 s : FVec Ideal S1024 .f32)

/-- The reference's hidden values. -/
def hiddenR : FVec Ideal S2x2048x4096 .f32 :=
  maximumf (addf (stackProd dot_S2x2048x1024_S1024x4096_S2x2048x4096_2_0_01_1_n_n_wf x W1)
    (broadcastInDim S2x2048x4096 ![0, 1, 2] bcast_S1x1x4096_S2x2048x4096_0_1_2 (broadcastInDim S1x1x4096 ![2] bcast_S4096_S1x1x4096_2 b1)))
    (broadcastInDim S2x2048x4096 ![] bcast_S_S2x2048x4096 (constant S_ .f32 0x00000000#32))

/-- The reference's rows before their division. -/
def preR : FVec Ideal S2x2048x1024 .f32 :=
  addf (addf (stackProd dot_S2x2048x4096_S4096x1024_S2x2048x1024_2_0_01_1_n_n_wf (hiddenR x W1 b1) W2)
    (broadcastInDim S2x2048x1024 ![0, 1, 2] bcast_S1x1x1024_S2x2048x1024_0_1_2 (broadcastInDim S1x1x1024 ![2] bcast_S1024_S1x1x1024_2 b2))) x

/-- The reference's sums of squares. -/
def sumSqR (y : FVec Ideal S2x2048x1024 .f32) : FVec Ideal S2x2048 .f32 :=
  Host.reduceAdd (mulf y y) (constant S_ .f32 0x00000000#32) reducesTo_S2x2048x1024_S2x2048_d2 h_S_

/-- The reference's factor of each row, from its sum of squares. -/
def rootR (q : FVec Ideal S2x2048 .f32) : FVec Ideal S2x2048x1 .f32 :=
  Host.rsqrt (addf (Host.divf (broadcastInDim S2x2048x1 ![0, 1] bcast_S2x2048_S2x2048x1_0_1 q)
      (broadcastInDim S2x2048x1 ![] bcast_S_S2x2048x1 (constant S_ .f32 0x44800000#32)))
      (broadcastInDim S2x2048x1 ![] bcast_S_S2x2048x1 (constant S_ .f32 0x358637BD#32)))

/-- The reference's division by the root of the mean square. -/
def normR (y : FVec Ideal S2x2048x1024 .f32) : FVec Ideal S2x2048x1024 .f32 :=
  mulf (mulf y (broadcastInDim S2x2048x1024 ![0, 1, 2] bcast_S2x2048x1_S2x2048x1024_0_1_2 (rootR (sumSqR y))))
    (broadcastInDim S2x2048x1024 ![0, 1, 2] bcast_S1x1x1024_S2x2048x1024_0_1_2 (broadcastInDim S1x1x1024 ![2] bcast_S1024_S1x1x1024_2 s))

/-- The reference's hidden values are the row's. -/
theorem hiddenR_apply (a : Fin 2) (b : Fin 2048) (k : Fin 4096) :
    hiddenR x W1 b1 (ix3 a b k) = Row.hid (fun i => x (ix3 a b i)) (fun i k => W1 (ix2 i k)) (fun k => b1 (ix1 k)) k := by
  unfold hiddenR Row.hid
  rw [maximumf_apply, addf_apply, stackProd_apply, last_apply, broadcastInDim_scalar_apply]
  exact congrArg (max _) Ideal.ofBits_zero_f32

/-- The reference's rows before their division are the row's. -/
theorem preR_apply (a : Fin 2) (b : Fin 2048) (j : Fin 1024) :
    preR x W1 b1 W2 b2 (ix3 a b j)
      = Row.pre (fun i => x (ix3 a b i)) (fun i k => W1 (ix2 i k)) (fun k => b1 (ix1 k)) (fun k j => W2 (ix2 k j)) (fun j => b2 (ix1 j)) j := by
  unfold preR Row.pre
  rw [addf_apply, addf_apply, stackProd_apply, last_apply]
  refine congrArg (fun z => z + b2 (ix1 j) + x (ix3 a b j)) ?_
  exact Finset.sum_congr rfl fun k _ => congrArg (· * W2 (ix2 k j)) (hiddenR_apply x W1 b1 a b k)

/-- A row's sum of squares, as the reference spells it. -/
theorem sumSqR_apply (y : FVec Ideal S2x2048x1024 .f32) (a : Fin 2) (b : Fin 2048) :
    sumSqR y (ix2 a b) = ∑ k : Fin 1024, y (ix3 a b k) * y (ix3 a b k) := by
  have hr : S2x2048x1024.Reduces [2] S2x2048 := by decide
  have h0 : constant (F := Ideal) S_ .f32 0x00000000#32 (Shape.Idx.first h_S_) = (0 : EReal) := Ideal.ofBits_zero_f32
  unfold sumSqR
  rw [hostReduceAdd_apply, h0, Ideal.hostReduceAdd_single reducesTo_S2x2048x1024_S2x2048_d2 hr, zero_add]
  refine Finset.sum_congr rfl fun k _ => ?_
  have e : hr.lift (ix2 a b) k = ix3 a b k := by
    funext x; apply Fin.ext
    match x with
    | ⟨0, _⟩ => rfl
    | ⟨1, _⟩ => rfl
    | ⟨2, _⟩ => rfl
  rw [e]; rfl

/-- A row's factor. -/
theorem rootR_apply (q : FVec Ideal S2x2048 .f32) (a : Fin 2) (b : Fin 2048) :
    rootR q (ix3 a b 0) = Ideal.rsqrt (Ideal.div (q (ix2 a b)) Row.width + Row.small) := by
  have e : broadcastInDim S2x2048x1 ![0, 1] bcast_S2x2048_S2x2048x1_0_1 q (ix3 a b 0) = q (ix2 a b) :=
    broadcastInDim_apply _ _ q _ _ (fun x => by
      match x with
      | ⟨0, _⟩ => rfl
      | ⟨1, _⟩ => rfl)
  exact congrArg (fun z => Ideal.rsqrt (Ideal.div z Row.width + Row.small)) e

/-- The reference's division at an index is the row's. -/
theorem normR_apply (y : FVec Ideal S2x2048x1024 .f32) (a : Fin 2) (b : Fin 2048) (j : Fin 1024) :
    normR s y (ix3 a b j) = Row.norm (fun k => y (ix3 a b k)) (fun k => s (ix1 k)) j := by
  have e : broadcastInDim S2x2048x1024 ![0, 1, 2] bcast_S2x2048x1_S2x2048x1024_0_1_2 (rootR (sumSqR y)) (ix3 a b j)
      = rootR (sumSqR y) (ix3 a b 0) :=
    broadcastInDim_apply _ _ (rootR (sumSqR y)) _ _ (fun x => by
      match x with
      | ⟨0, _⟩ => rfl
      | ⟨1, _⟩ => rfl
      | ⟨2, _⟩ => rfl)
  unfold normR Row.norm
  rw [mulf_apply, mulf_apply, last_apply, e, rootR_apply, sumSqR_apply]

/-- The reference's result at an index. -/
theorem result_apply (a : Fin 2) (b : Fin 2048) (j : Fin 1024) :
    normR s (preR x W1 b1 W2 b2) (ix3 a b j)
      = Row.out (fun i => x (ix3 a b i)) (fun i k => W1 (ix2 i k)) (fun k => b1 (ix1 k)) (fun k j => W2 (ix2 k j))
          (fun j => b2 (ix1 j)) (fun j => s (ix1 j)) j := by
  rw [normR_apply]
  exact congrArg (fun y => Row.norm y _ j) (funext fun c => preR_apply x W1 b1 W2 b2 a b c)

end Value

open Idealize.ShloMosaic.TcCoe Idealize.SL.Sem

/-- The reference run: its result is the term above of its arguments, its arguments stay. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = normR (m ((c.tc : Thread nD τ).loc main_arg5)) (preR (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.ReferenceIdeal.Mlp

end
-- ==== Proof.Equal.lean ====
module

public import proofs.«01_k».proof.Proof.Main
public import proofs.«01_k».proof.Proof.Ref

/-! The equation: the program's result is the reference's. -/

@[expose] public section

noncomputable section

namespace Cert

open Idealize.ShloMosaic hiding ix1 ix2 ix3
open Idealize.ShloMosaic.TcCoe Idealize.ShloMosaic.ValueIdx

/-- Element by element both are the computation of the argument's row. -/
theorem result_eq (m : (ℓ : Loc KernelIdeal.nD KernelIdeal.τ KernelIdeal.sig) → Buf (Elt Ideal) ℓ) (c : Dev KernelIdeal.nD) :
    KernelIdeal.Mlp.result m c
      = ReferenceIdeal.Mlp.normR (m ((c : Thread KernelIdeal.nD KernelIdeal.τ).loc KernelIdeal.main_arg5))
          (ReferenceIdeal.Mlp.preR (m ((c : Thread KernelIdeal.nD KernelIdeal.τ).loc KernelIdeal.main_arg0))
            (m ((c : Thread KernelIdeal.nD KernelIdeal.τ).loc KernelIdeal.main_arg1)) (m ((c : Thread KernelIdeal.nD KernelIdeal.τ).loc KernelIdeal.main_arg2))
            (m ((c : Thread KernelIdeal.nD KernelIdeal.τ).loc KernelIdeal.main_arg3)) (m ((c : Thread KernelIdeal.nD KernelIdeal.τ).loc KernelIdeal.main_arg4))) := by
  funext i
  obtain ⟨a, b, j, rfl⟩ : ∃ (a : Fin 2) (b : Fin 2048) (j : Fin 1024), i = ix3 a b j := ⟨i 0, i 1, i 2, ValueIdx.eq_ix3 i⟩
  exact (KernelIdeal.Mlp.stack_apply _ _ a b j).trans ((KernelIdeal.Mlp.rowsOut_flat m c a b j).trans
    (ReferenceIdeal.Mlp.result_apply _ _ _ _ _ _ a b j).symm)

end Cert

end
-- ==== Proof.Same.lean ====
module

public import proofs.«01_k».proof.Defs
public import proofs.«01_k».proof.Proof.Gen.Kernel
public import proofs.«01_k».proof.Proof.Kept

/-! The kernel's own program: it has the same text as its idealization, so the idealization's run, at any floats, is its run too. -/

@[expose] public section

set_option maxRecDepth 16384

noncomputable section

namespace Cert.Kernel.Mlp

open Idealize.ShloMosaic Idealize.SL.Sem

variable {F : FTy → Type} [FloatOps F]

/-- The two programs are one. -/
theorem main_same : Cert.Kernel.main (F := F) = Cert.KernelIdeal.main (F := F) := rfl

/-- The body is one in both. -/
theorem body_same : @Cert.Kernel.cc0__fused_mlp_kernel F _ _ = @Cert.KernelIdeal.cc0__fused_mlp_kernel F _ _ := rfl

/-- So is the function that calls it, at every point. -/
theorem defs₀_same : Cert.Kernel.defs₀ (F := F) = Cert.KernelIdeal.defs₀ (F := F) :=
  congrArg Defs.onTc (by funext ℓ a; match ℓ, a with | 0, (t, s) => rfl)

/-- So are the functions that they call. -/
theorem defs_same : Cert.Kernel.defs (F := F) = Cert.KernelIdeal.defs (F := F) :=
  congrArg (Pipeline.defs Cert.KernelIdeal.pcfgs) defs₀_same

/-- Every fair execution of the kernel's program ends, with its arguments unchanged and every semaphore at zero. -/
theorem run_frame : Cert.quiescent_Kernel (hKernel := Cert.Kernel.Gen.facts) := fun m ρ _ => by
  rw [main_same, defs_same]
  exact Cert.KernelIdeal.Mlp.run_frame m ρ

end Cert.Kernel.Mlp

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.Same
public import Idealize.ShloMosaic.Adequacy
public import Idealize.ShloMosaic.Init

/-! The claims, assembled from the run of the kernel, the run of the reference and the equation between them. -/

@[expose] public section

noncomputable section

namespace Cert.Proof

open Idealize.ShloMosaic Idealize.SL.Sem Cert.Kernel

/-- The kernel's program runs to an end, its arguments unchanged and every semaphore at zero. -/
theorem frame_kernel : Cert.quiescent_Kernel (hKernel := Cert.Kernel.Gen.facts) := Cert.Kernel.Mlp.run_frame

/-- So does its idealization. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Mlp.run_all m ρ)

/-- So does the reference, which has no semaphores. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Mlp.run_ref m ρ)

/-- From equal arguments, the idealization and the reference end with equal results. -/
theorem equal : Cert.algebraic_KernelIdeal_ReferenceIdeal (hKernelIdeal := Cert.KernelIdeal.Gen.facts)
    (hReferenceIdeal := Cert.ReferenceIdeal.Gen.facts) := fun m g m' g' _ same =>
  ⟨Cert.KernelIdeal.Mlp.result m, (θ_run _ _ _).mono (fun _ h => h.1) (Cert.KernelIdeal.Mlp.run_all m g),
    (θ_run _ _ _).mono (fun r h c => ⟨by
      obtain ⟨h0, h1, h2, h3, h4, h5⟩ := same c
      rw [(h c).1, h0, h1, h2, h3, h4, h5]
      exact (Cert.result_eq m c).symm, (h c).2⟩) (Cert.ReferenceIdeal.Mlp.run_ref m' g')⟩

/-- Everything claimed. -/
theorem claim : Cert.Claim :=
  ⟨Cert.Kernel.Gen.facts, Cert.KernelIdeal.Gen.facts, Cert.ReferenceIdeal.Gen.facts, frame_kernel, frame_ideal, frame_reference, trivial, equal⟩

end Cert.Proof

end
